-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S64 : Shape := ⟨1, ![64]⟩
abbrev S128 : Shape := ⟨1, ![128]⟩
abbrev S32 : Shape := ⟨1, ![32]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S32x1 : Shape := ⟨2, ![32, 1]⟩
abbrev S32x64 : Shape := ⟨2, ![32, 64]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x128 : Shape := ⟨3, ![1, 8192, 128]⟩
abbrev S8x128 : Shape := ⟨2, ![8, 128]⟩
abbrev S8192x128 : Shape := ⟨2, ![8192, 128]⟩
abbrev S128x8192 : Shape := ⟨2, ![128, 8192]⟩
abbrev S128x64x128 : Shape := ⟨3, ![128, 64, 128]⟩
abbrev S128x64x1 : Shape := ⟨3, ![128, 64, 1]⟩
abbrev S64x128x128 : Shape := ⟨3, ![64, 128, 128]⟩
abbrev S64x16384 : Shape := ⟨2, ![64, 16384]⟩
abbrev S32x16384 : Shape := ⟨2, ![32, 16384]⟩
abbrev S4096x128 : Shape := ⟨2, ![4096, 128]⟩
abbrev S2048x128 : Shape := ⟨2, ![2048, 128]⟩
abbrev S32x128 : Shape := ⟨2, ![32, 128]⟩

abbrev nBuf : Space → Nat
  | .hbm => 174
  | .vmem => 13
  | .smem => 0
  | _ => 0

abbrev hbmTy0_0 (i : Nat) : BufTy := match i % 128 with
  | 0 => ⟨S4x8192x768, .f32⟩
  | 1 => ⟨S64, .i32⟩
  | 2 => ⟨S128, .i32⟩
  | 3 => ⟨S128, .i32⟩
  | 4 => ⟨S32, .i32⟩
  | 5 => ⟨S_, .f32⟩
  | 6 => ⟨S_, .f32⟩
  | 7 => ⟨S_, .f32⟩
  | 8 => ⟨S_, .f32⟩
  | 9 => ⟨S_, .f32⟩
  | 10 => ⟨S128x1, .i32⟩
  | 11 => ⟨S1x128, .i32⟩
  | 12 => ⟨S128x128, .i32⟩
  | 13 => ⟨S128x128, .i32⟩
  | 14 => ⟨S128x128, .i32⟩
  | 15 => ⟨S128x128, .f32⟩
  | 16 => ⟨S128x128, .f32⟩
  | 17 => ⟨S128x128, .f32⟩
  | 18 => ⟨S_, .f32⟩
  | 19 => ⟨S128x128, .f32⟩
  | 20 => ⟨S128x128, .f32⟩
  | 21 => ⟨S128x128, .f32⟩
  | 22 => ⟨S_, .f32⟩
  | 23 => ⟨S_, .f32⟩
  | 24 => ⟨S_, .f32⟩
  | 25 => ⟨S_, .f32⟩
  | 26 => ⟨S_, .f32⟩
  | 27 => ⟨S128x1, .i32⟩
  | 28 => ⟨S1x128, .i32⟩
  | 29 => ⟨S128x128, .i32⟩
  | 30 => ⟨S128x128, .i32⟩
  | 31 => ⟨S128x128, .i32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .f32⟩
  | 38 => ⟨S128x128, .f32⟩
  | 39 => ⟨S128x128, .f32⟩
  | 40 => ⟨S_, .f32⟩
  | 41 => ⟨S_, .f32⟩
  | 42 => ⟨S_, .f32⟩
  | 43 => ⟨S_, .f32⟩
  | 44 => ⟨S_, .f32⟩
  | 45 => ⟨S128x1, .i32⟩
  | 46 => ⟨S1x64, .i32⟩
  | 47 => ⟨S128x64, .i32⟩
  | 48 => ⟨S128x64, .i32⟩
  | 49 => ⟨S128x64, .i32⟩
  | 50 => ⟨S128x64, .f32⟩
  | 51 => ⟨S128x64, .f32⟩
  | 52 => ⟨S128x64, .f32⟩
  | 53 => ⟨S_, .f32⟩
  | 54 => ⟨S128x64, .f32⟩
  | 55 => ⟨S128x64, .f32⟩
  | 56 => ⟨S128x64, .f32⟩
  | 57 => ⟨S_, .f32⟩
  | 58 => ⟨S_, .f32⟩
  | 59 => ⟨S_, .f32⟩
  | 60 => ⟨S_, .f32⟩
  | 61 => ⟨S_, .f32⟩
  | 62 => ⟨S128x1, .i32⟩
  | 63 => ⟨S1x64, .i32⟩
  | 64 => ⟨S128x64, .i32⟩
  | 65 => ⟨S128x64, .i32⟩
  | 66 => ⟨S128x64, .i32⟩
  | 67 => ⟨S128x64, .f32⟩
  | 68 => ⟨S128x64, .f32⟩
  | 69 => ⟨S128x64, .f32⟩
  | 70 => ⟨S_, .f32⟩
  | 71 => ⟨S128x64, .f32⟩
  | 72 => ⟨S128x64, .f32⟩
  | 73 => ⟨S128x64, .f32⟩
  | 74 => ⟨S128x64, .f32⟩
  | 75 => ⟨S_, .f32⟩
  | 76 => ⟨S_, .f32⟩
  | 77 => ⟨S_, .f32⟩
  | 78 => ⟨S_, .f32⟩
  | 79 => ⟨S_, .f32⟩
  | 80 => ⟨S32x1, .i32⟩
  | 81 => ⟨S1x64, .i32⟩
  | 82 => ⟨S32x64, .i32⟩
  | 83 => ⟨S32x64, .i32⟩
  | 84 => ⟨S32x64, .i32⟩
  | 85 => ⟨S32x64, .f32⟩
  | 86 => ⟨S32x64, .f32⟩
  | 87 => ⟨S32x64, .f32⟩
  | 88 => ⟨S_, .f32⟩
  | 89 => ⟨S32x64, .f32⟩
  | 90 => ⟨S32x64, .f32⟩
  | 91 => ⟨S32x64, .f32⟩
  | 92 => ⟨S_, .f32⟩
  | 93 => ⟨S_, .f32⟩
  | 94 => ⟨S_, .f32⟩
  | 95 => ⟨S_, .f32⟩
  | 96 => ⟨S_, .f32⟩
  | 97 => ⟨S32x1, .i32⟩
  | 98 => ⟨S1x64, .i32⟩
  | 99 => ⟨S32x64, .i32⟩
  | 100 => ⟨S32x64, .i32⟩
  | 101 => ⟨S32x64, .i32⟩
  | 102 => ⟨S32x64, .f32⟩
  | 103 => ⟨S32x64, .f32⟩
  | 104 => ⟨S32x64, .f32⟩
  | 105 => ⟨S_, .f32⟩
  | 106 => ⟨S32x64, .f32⟩
  | 107 => ⟨S32x64, .f32⟩
  | 108 => ⟨S32x64, .f32⟩
  | 109 => ⟨S32x64, .f32⟩
  | 110 => ⟨S8192, .i32⟩
  | 111 => ⟨S32, .i32⟩
  | 112 => ⟨S_, .f32⟩
  | 113 => ⟨S_, .f32⟩
  | 114 => ⟨S_, .f32⟩
  | 115 => ⟨S_, .f32⟩
  | 116 => ⟨S_, .f32⟩
  | 117 => ⟨S8192x1, .i32⟩
  | 118 => ⟨S1x32, .i32⟩
  | 119 => ⟨S8192x32, .i32⟩
  | 120 => ⟨S8192x32, .i32⟩
  | 121 => ⟨S8192x32, .i32⟩
  | 122 => ⟨S8192x32, .f32⟩
  | 123 => ⟨S8192x32, .f32⟩
  | 124 => ⟨S8192x32, .f32⟩
  | 125 => ⟨S_, .f32⟩
  | 126 => ⟨S8192x32, .f32⟩
  | 127 => ⟨S8192x32, .f32⟩
  | _ => ⟨S4x8192x768, .f32⟩

abbrev hbmTy0_1 (i : Nat) : BufTy := match i % 128 with
  | 0 => ⟨S8192x32, .f32⟩
  | 1 => ⟨S_, .f32⟩
  | 2 => ⟨S8192x32, .f32⟩
  | 3 => ⟨S8192x32, .f32⟩
  | 4 => ⟨S1x32, .i32⟩
  | 5 => ⟨S_, .i32⟩
  | 6 => ⟨S1x32, .i32⟩
  | 7 => ⟨S1x32, .i1⟩
  | 8 => ⟨S_, .f32⟩
  | 9 => ⟨S8192x32, .f32⟩
  | 10 => ⟨S8192x32, .f32⟩
  | 11 => ⟨S8192x32, .i1⟩
  | 12 => ⟨S8192x32, .f32⟩
  | 13 => ⟨S_, .f32⟩
  | 14 => ⟨S_, .f32⟩
  | 15 => ⟨S_, .f32⟩
  | 16 => ⟨S_, .f32⟩
  | 17 => ⟨S_, .f32⟩
  | 18 => ⟨S8192x1, .i32⟩
  | 19 => ⟨S1x32, .i32⟩
  | 20 => ⟨S8192x32, .i32⟩
  | 21 => ⟨S8192x32, .i32⟩
  | 22 => ⟨S8192x32, .i32⟩
  | 23 => ⟨S8192x32, .f32⟩
  | 24 => ⟨S8192x32, .f32⟩
  | 25 => ⟨S8192x32, .f32⟩
  | 26 => ⟨S_, .f32⟩
  | 27 => ⟨S8192x32, .f32⟩
  | 28 => ⟨S8192x32, .f32⟩
  | 29 => ⟨S8192x32, .f32⟩
  | 30 => ⟨S_, .f32⟩
  | 31 => ⟨S8192x32, .f32⟩
  | 32 => ⟨S8192x32, .f32⟩
  | 33 => ⟨S_, .f32⟩
  | 34 => ⟨S8192x32, .f32⟩
  | 35 => ⟨S8192x32, .f32⟩
  | 36 => ⟨S1x32, .i32⟩
  | 37 => ⟨S_, .i32⟩
  | 38 => ⟨S1x32, .i32⟩
  | 39 => ⟨S1x32, .i1⟩
  | 40 => ⟨S_, .f32⟩
  | 41 => ⟨S_, .f32⟩
  | 42 => ⟨S8192x32, .i1⟩
  | 43 => ⟨S8192x32, .f32⟩
  | 44 => ⟨S8192x32, .f32⟩
  | 45 => ⟨S4x8192x768, .f32⟩
  | _ => ⟨S4x8192x768, .f32⟩

abbrev hbmTy (i : Nat) : BufTy := match i / 128 with
  | 0 => hbmTy0_0 i
  | 1 => hbmTy0_1 i
  | _ => ⟨S4x8192x768, .f32⟩

abbrev bufTy : (tb : Table) → Fin (tcTables nBuf tb) → BufTy
  | .hbm, ⟨i, _⟩ => hbmTy i
  | .local _ .vmem, ⟨0, _⟩ => ⟨S1x8192x128, .f32⟩
  | .local _ .vmem, ⟨1, _⟩ => ⟨S1x8192x128, .f32⟩
  | .local _ .vmem, ⟨2, _⟩ => ⟨S128x128, .f32⟩
  | .local _ .vmem, ⟨3, _⟩ => ⟨S128x128, .f32⟩
  | .local _ .vmem, ⟨4, _⟩ => ⟨S128x64, .f32⟩
  | .local _ .vmem, ⟨5, _⟩ => ⟨S128x64, .f32⟩
  | .local _ .vmem, ⟨6, _⟩ => ⟨S32x64, .f32⟩
  | .local _ .vmem, ⟨7, _⟩ => ⟨S32x64, .f32⟩
  | .local _ .vmem, ⟨8, _⟩ => ⟨S8192x32, .f32⟩
  | .local _ .vmem, ⟨9, _⟩ => ⟨S8192x32, .f32⟩
  | .local _ .vmem, ⟨10, _⟩ => ⟨S1x8192x128, .f32⟩
  | .local _ .vmem, ⟨11, _⟩ => ⟨S1x8192x128, .f32⟩
  | .local _ .vmem, ⟨12, _⟩ => ⟨S8x128, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_cst : Ref sig .tc := ⟨.hbm, 5, rfl⟩
abbrev main_call0_cst_0 : Ref sig .tc := ⟨.hbm, 6, rfl⟩
abbrev main_call0_v4 : Ref sig .tc := ⟨.hbm, 7, rfl⟩
abbrev main_call0_cst_1 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_cst_2 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_cst_3 : Ref sig .tc := ⟨.hbm, 22, rfl⟩
abbrev main_call0_cst_4 : Ref sig .tc := ⟨.hbm, 23, rfl⟩
abbrev main_call0_v17 : Ref sig .tc := ⟨.hbm, 24, rfl⟩
abbrev main_call0_cst_5 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_cst_6 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_call0_cst_7 : Ref sig .tc := ⟨.hbm, 40, rfl⟩
abbrev main_call0_cst_8 : Ref sig .tc := ⟨.hbm, 41, rfl⟩
abbrev main_call0_v31 : Ref sig .tc := ⟨.hbm, 42, rfl⟩
abbrev main_call0_cst_9 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_v35 : Ref sig .tc := ⟨.hbm, 47, rfl⟩
abbrev main_call0_v36 : Ref sig .tc := ⟨.hbm, 48, rfl⟩
abbrev main_call0_v37 : Ref sig .tc := ⟨.hbm, 49, rfl⟩
abbrev main_call0_v38 : Ref sig .tc := ⟨.hbm, 50, rfl⟩
abbrev main_call0_v39 : Ref sig .tc := ⟨.hbm, 51, rfl⟩
abbrev main_call0_v40 : Ref sig .tc := ⟨.hbm, 52, rfl⟩
abbrev main_call0_cst_10 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_cst_11 : Ref sig .tc := ⟨.hbm, 57, rfl⟩
abbrev main_call0_cst_12 : Ref sig .tc := ⟨.hbm, 58, rfl⟩
abbrev main_call0_v44 : Ref sig .tc := ⟨.hbm, 59, rfl⟩
abbrev main_call0_cst_13 : Ref sig .tc := ⟨.hbm, 60, rfl⟩
abbrev main_call0_v45 : Ref sig .tc := ⟨.hbm, 61, rfl⟩
abbrev main_call0_v46 : Ref sig .tc := ⟨.hbm, 62, rfl⟩
abbrev main_call0_v47 : Ref sig .tc := ⟨.hbm, 63, rfl⟩
abbrev main_call0_v48 : Ref sig .tc := ⟨.hbm, 64, rfl⟩
abbrev main_call0_v49 : Ref sig .tc := ⟨.hbm, 65, rfl⟩
abbrev main_call0_v50 : Ref sig .tc := ⟨.hbm, 66, rfl⟩
abbrev main_call0_v51 : Ref sig .tc := ⟨.hbm, 67, rfl⟩
abbrev main_call0_v52 : Ref sig .tc := ⟨.hbm, 68, rfl⟩
abbrev main_call0_v53 : Ref sig .tc := ⟨.hbm, 69, rfl⟩
abbrev main_call0_cst_14 : Ref sig .tc := ⟨.hbm, 70, rfl⟩
abbrev main_call0_v54 : Ref sig .tc := ⟨.hbm, 71, rfl⟩
abbrev main_call0_v55 : Ref sig .tc := ⟨.hbm, 72, rfl⟩
abbrev main_call0_v56 : Ref sig .tc := ⟨.hbm, 73, rfl⟩
abbrev main_call0_v57 : Ref sig .tc := ⟨.hbm, 74, rfl⟩
abbrev main_call0_cst_15 : Ref sig .tc := ⟨.hbm, 75, rfl⟩
abbrev main_call0_cst_16 : Ref sig .tc := ⟨.hbm, 76, rfl⟩
abbrev main_call0_v58 : Ref sig .tc := ⟨.hbm, 77, rfl⟩
abbrev main_call0_cst_17 : Ref sig .tc := ⟨.hbm, 78, rfl⟩
abbrev main_call0_v59 : Ref sig .tc := ⟨.hbm, 79, rfl⟩
abbrev main_call0_v60 : Ref sig .tc := ⟨.hbm, 80, rfl⟩
abbrev main_call0_v61 : Ref sig .tc := ⟨.hbm, 81, rfl⟩
abbrev main_call0_v62 : Ref sig .tc := ⟨.hbm, 82, rfl⟩
abbrev main_call0_v63 : Ref sig .tc := ⟨.hbm, 83, rfl⟩
abbrev main_call0_v64 : Ref sig .tc := ⟨.hbm, 84, rfl⟩
abbrev main_call0_v65 : Ref sig .tc := ⟨.hbm, 85, rfl⟩
abbrev main_call0_v66 : Ref sig .tc := ⟨.hbm, 86, rfl⟩
abbrev main_call0_v67 : Ref sig .tc := ⟨.hbm, 87, rfl⟩
abbrev main_call0_cst_18 : Ref sig .tc := ⟨.hbm, 88, rfl⟩
abbrev main_call0_v68 : Ref sig .tc := ⟨.hbm, 89, rfl⟩
abbrev main_call0_v69 : Ref sig .tc := ⟨.hbm, 90, rfl⟩
abbrev main_call0_v70 : Ref sig .tc := ⟨.hbm, 91, rfl⟩
abbrev main_call0_cst_19 : Ref sig .tc := ⟨.hbm, 92, rfl⟩
abbrev main_call0_cst_20 : Ref sig .tc := ⟨.hbm, 93, rfl⟩
abbrev main_call0_v71 : Ref sig .tc := ⟨.hbm, 94, rfl⟩
abbrev main_call0_cst_21 : Ref sig .tc := ⟨.hbm, 95, rfl⟩
abbrev main_call0_v72 : Ref sig .tc := ⟨.hbm, 96, rfl⟩
abbrev main_call0_v73 : Ref sig .tc := ⟨.hbm, 97, rfl⟩
abbrev main_call0_v74 : Ref sig .tc := ⟨.hbm, 98, rfl⟩
abbrev main_call0_v75 : Ref sig .tc := ⟨.hbm, 99, rfl⟩
abbrev main_call0_v76 : Ref sig .tc := ⟨.hbm, 100, rfl⟩
abbrev main_call0_v77 : Ref sig .tc := ⟨.hbm, 101, rfl⟩
abbrev main_call0_v78 : Ref sig .tc := ⟨.hbm, 102, rfl⟩
abbrev main_call0_v79 : Ref sig .tc := ⟨.hbm, 103, rfl⟩
abbrev main_call0_v80 : Ref sig .tc := ⟨.hbm, 104, rfl⟩
abbrev main_call0_cst_22 : Ref sig .tc := ⟨.hbm, 105, rfl⟩
abbrev main_call0_v81 : Ref sig .tc := ⟨.hbm, 106, rfl⟩
abbrev main_call0_v82 : Ref sig .tc := ⟨.hbm, 107, rfl⟩
abbrev main_call0_v83 : Ref sig .tc := ⟨.hbm, 108, rfl⟩
abbrev main_call0_v84 : Ref sig .tc := ⟨.hbm, 109, rfl⟩
abbrev main_call0_v85 : Ref sig .tc := ⟨.hbm, 110, rfl⟩
abbrev main_call0_v86 : Ref sig .tc := ⟨.hbm, 111, rfl⟩
abbrev main_call0_cst_23 : Ref sig .tc := ⟨.hbm, 112, rfl⟩
abbrev main_call0_cst_24 : Ref sig .tc := ⟨.hbm, 113, rfl⟩
abbrev main_call0_v87 : Ref sig .tc := ⟨.hbm, 114, rfl⟩
abbrev main_call0_cst_25 : Ref sig .tc := ⟨.hbm, 115, rfl⟩
abbrev main_call0_v88 : Ref sig .tc := ⟨.hbm, 116, rfl⟩
abbrev main_call0_v89 : Ref sig .tc := ⟨.hbm, 117, rfl⟩
abbrev main_call0_v90 : Ref sig .tc := ⟨.hbm, 118, rfl⟩
abbrev main_call0_v91 : Ref sig .tc := ⟨.hbm, 119, rfl⟩
abbrev main_call0_v92 : Ref sig .tc := ⟨.hbm, 120, rfl⟩
abbrev main_call0_v93 : Ref sig .tc := ⟨.hbm, 121, rfl⟩
abbrev main_call0_v94 : Ref sig .tc := ⟨.hbm, 122, rfl⟩
abbrev main_call0_v95 : Ref sig .tc := ⟨.hbm, 123, rfl⟩
abbrev main_call0_v96 : Ref sig .tc := ⟨.hbm, 124, rfl⟩
abbrev main_call0_cst_26 : Ref sig .tc := ⟨.hbm, 125, rfl⟩
abbrev main_call0_v97 : Ref sig .tc := ⟨.hbm, 126, rfl⟩
abbrev main_call0_v98 : Ref sig .tc := ⟨.hbm, 127, rfl⟩
abbrev main_call0_v99 : Ref sig .tc := ⟨.hbm, 128, rfl⟩
abbrev main_call0_cst_27 : Ref sig .tc := ⟨.hbm, 129, rfl⟩
abbrev main_call0_v100 : Ref sig .tc := ⟨.hbm, 130, rfl⟩
abbrev main_call0_v101 : Ref sig .tc := ⟨.hbm, 131, rfl⟩
abbrev main_call0_v102 : Ref sig .tc := ⟨.hbm, 132, rfl⟩
abbrev main_call0_c : Ref sig .tc := ⟨.hbm, 133, rfl⟩
abbrev main_call0_v103 : Ref sig .tc := ⟨.hbm, 134, rfl⟩
abbrev main_call0_v104 : Ref sig .tc := ⟨.hbm, 135, rfl⟩
abbrev main_call0_cst_28 : Ref sig .tc := ⟨.hbm, 136, rfl⟩
abbrev main_call0_v105 : Ref sig .tc := ⟨.hbm, 137, rfl⟩
abbrev main_call0_v106 : Ref sig .tc := ⟨.hbm, 138, rfl⟩
abbrev main_call0_call0_v0 : Ref sig .tc := ⟨.hbm, 139, rfl⟩
abbrev main_call0_v107 : Ref sig .tc := ⟨.hbm, 140, rfl⟩
abbrev main_call0_cst_29 : Ref sig .tc := ⟨.hbm, 141, rfl⟩
abbrev main_call0_cst_30 : Ref sig .tc := ⟨.hbm, 142, rfl⟩
abbrev main_call0_v108 : Ref sig .tc := ⟨.hbm, 143, rfl⟩
abbrev main_call0_cst_31 : Ref sig .tc := ⟨.hbm, 144, rfl⟩
abbrev main_call0_v109 : Ref sig .tc := ⟨.hbm, 145, rfl⟩
abbrev main_call0_v110 : Ref sig .tc := ⟨.hbm, 146, rfl⟩
abbrev main_call0_v111 : Ref sig .tc := ⟨.hbm, 147, rfl⟩
abbrev main_call0_v112 : Ref sig .tc := ⟨.hbm, 148, rfl⟩
abbrev main_call0_v113 : Ref sig .tc := ⟨.hbm, 149, rfl⟩
abbrev main_call0_v114 : Ref sig .tc := ⟨.hbm, 150, rfl⟩
abbrev main_call0_v115 : Ref sig .tc := ⟨.hbm, 151, rfl⟩
abbrev main_call0_v116 : Ref sig .tc := ⟨.hbm, 152, rfl⟩
abbrev main_call0_v117 : Ref sig .tc := ⟨.hbm, 153, rfl⟩
abbrev main_call0_cst_32 : Ref sig .tc := ⟨.hbm, 154, rfl⟩
abbrev main_call0_v118 : Ref sig .tc := ⟨.hbm, 155, rfl⟩
abbrev main_call0_v119 : Ref sig .tc := ⟨.hbm, 156, rfl⟩
abbrev main_call0_v120 : Ref sig .tc := ⟨.hbm, 157, rfl⟩
abbrev main_call0_cst_33 : Ref sig .tc := ⟨.hbm, 158, rfl⟩
abbrev main_call0_v121 : Ref sig .tc := ⟨.hbm, 159, rfl⟩
abbrev main_call0_v122 : Ref sig .tc := ⟨.hbm, 160, rfl⟩
abbrev main_call0_cst_34 : Ref sig .tc := ⟨.hbm, 161, rfl⟩
abbrev main_call0_v123 : Ref sig .tc := ⟨.hbm, 162, rfl⟩
abbrev main_call0_v124 : Ref sig .tc := ⟨.hbm, 163, rfl⟩
abbrev main_call0_v125 : Ref sig .tc := ⟨.hbm, 164, rfl⟩
abbrev main_call0_c_35 : Ref sig .tc := ⟨.hbm, 165, rfl⟩
abbrev main_call0_v126 : Ref sig .tc := ⟨.hbm, 166, rfl⟩
abbrev main_call0_v127 : Ref sig .tc := ⟨.hbm, 167, rfl⟩
abbrev main_call0_cst_36 : Ref sig .tc := ⟨.hbm, 168, rfl⟩
abbrev main_call0_call1_v0 : Ref sig .tc := ⟨.hbm, 169, rfl⟩
abbrev main_call0_call1_v1 : Ref sig .tc := ⟨.hbm, 170, rfl⟩
abbrev main_call0_call1_v2 : Ref sig .tc := ⟨.hbm, 171, rfl⟩
abbrev main_call0_v128 : Ref sig .tc := ⟨.hbm, 172, rfl⟩
abbrev main_v0 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8192x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8192x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x8192x768 : Shape := ⟨3, ![4, 8192, 768]⟩
abbrev S_ : Shape := ⟨0, ![]⟩
abbrev S4x768 : Shape := ⟨2, ![4, 768]⟩
abbrev S4x1x768 : Shape := ⟨3, ![4, 1, 768]⟩
abbrev S8192 : Shape := ⟨1, ![8192]⟩
abbrev S4095 : Shape := ⟨1, ![4095]⟩
abbrev S4095x1 : Shape := ⟨2, ![4095, 1]⟩
abbrev S1x8192 : Shape := ⟨2, ![1, 8192]⟩
abbrev S4095x8192 : Shape := ⟨2, ![4095, 8192]⟩
abbrev S4x768x4095 : Shape := ⟨3, ![4, 768, 4095]⟩
abbrev S4x4095x768 : Shape := ⟨3, ![4, 4095, 768]⟩
abbrev S4x768x32 : Shape := ⟨3, ![4, 768, 32]⟩
abbrev S4x32x768 : Shape := ⟨3, ![4, 32, 768]⟩
abbrev S4x32x768x1 : Shape := ⟨4, ![4, 32, 768, 1]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S4x768x8192 : Shape := ⟨3, ![4, 768, 8192]⟩

abbrev nBuf : Space → Nat
  | .hbm => 185
  | .vmem => 0
  | .smem => 0
  | _ => 0

abbrev hbmTy0_0 (i : Nat) : BufTy := match i % 128 with
  | 0 => ⟨S4x8192x768, .f32⟩
  | 1 => ⟨S_, .f32⟩
  | 2 => ⟨S4x768, .f32⟩
  | 3 => ⟨S4x1x768, .f32⟩
  | 4 => ⟨S_, .f32⟩
  | 5 => ⟨S4x1x768, .f32⟩
  | 6 => ⟨S4x1x768, .f32⟩
  | 7 => ⟨S_, .i32⟩
  | 8 => ⟨S_, .f32⟩
  | 9 => ⟨S4x768, .f32⟩
  | 10 => ⟨S4x1x768, .f32⟩
  | 11 => ⟨S_, .f32⟩
  | 12 => ⟨S4x1x768, .f32⟩
  | 13 => ⟨S4x1x768, .f32⟩
  | 14 => ⟨S4x8192x768, .f32⟩
  | 15 => ⟨S4x8192x768, .f32⟩
  | 16 => ⟨S4x8192x768, .f32⟩
  | 17 => ⟨S_, .f32⟩
  | 18 => ⟨S_, .f32⟩
  | 19 => ⟨S_, .f32⟩
  | 20 => ⟨S_, .f32⟩
  | 21 => ⟨S4x768, .f32⟩
  | 22 => ⟨S4x1x768, .f32⟩
  | 23 => ⟨S4x1x768, .f32⟩
  | 24 => ⟨S4x1x768, .f32⟩
  | 25 => ⟨S_, .f32⟩
  | 26 => ⟨S_, .i1⟩
  | 27 => ⟨S_, .f32⟩
  | 28 => ⟨S_, .f32⟩
  | 29 => ⟨S4x1x768, .f32⟩
  | 30 => ⟨S4x1x768, .f32⟩
  | 31 => ⟨S4x1x768, .f32⟩
  | 32 => ⟨S_, .f32⟩
  | 33 => ⟨S4x1x768, .f32⟩
  | 34 => ⟨S4x1x768, .f32⟩
  | 35 => ⟨S4x8192x768, .f32⟩
  | 36 => ⟨S4x8192x768, .f32⟩
  | 37 => ⟨S4x8192x768, .f32⟩
  | 38 => ⟨S4x8192x768, .f32⟩
  | 39 => ⟨S_, .f32⟩
  | 40 => ⟨S_, .f32⟩
  | 41 => ⟨S_, .f32⟩
  | 42 => ⟨S4x8192x768, .f32⟩
  | 43 => ⟨S4x8192x768, .f32⟩
  | 44 => ⟨S_, .f32⟩
  | 45 => ⟨S4x8192x768, .f32⟩
  | 46 => ⟨S4x8192x768, .f32⟩
  | 47 => ⟨S_, .f32⟩
  | 48 => ⟨S4x8192x768, .f32⟩
  | 49 => ⟨S_, .f32⟩
  | 50 => ⟨S4x8192x768, .f32⟩
  | 51 => ⟨S4x8192x768, .f32⟩
  | 52 => ⟨S4x8192x768, .f32⟩
  | 53 => ⟨S8192, .i32⟩
  | 54 => ⟨S4095, .i32⟩
  | 55 => ⟨S_, .i32⟩
  | 56 => ⟨S4095, .i32⟩
  | 57 => ⟨S4095, .i32⟩
  | 58 => ⟨S_, .f32⟩
  | 59 => ⟨S_, .f32⟩
  | 60 => ⟨S_, .f32⟩
  | 61 => ⟨S_, .f32⟩
  | 62 => ⟨S_, .f32⟩
  | 63 => ⟨S4095x1, .i32⟩
  | 64 => ⟨S1x8192, .i32⟩
  | 65 => ⟨S4095x8192, .i32⟩
  | 66 => ⟨S4095x8192, .i32⟩
  | 67 => ⟨S4095x8192, .i32⟩
  | 68 => ⟨S4095x8192, .f32⟩
  | 69 => ⟨S4095x8192, .f32⟩
  | 70 => ⟨S4095x8192, .f32⟩
  | 71 => ⟨S_, .f32⟩
  | 72 => ⟨S4095x8192, .f32⟩
  | 73 => ⟨S4095x8192, .f32⟩
  | 74 => ⟨S4095x8192, .f32⟩
  | 75 => ⟨S4x768x4095, .f32⟩
  | 76 => ⟨S4x4095x768, .f32⟩
  | 77 => ⟨S4095x8192, .f32⟩
  | 78 => ⟨S4095x8192, .f32⟩
  | 79 => ⟨S4x768x4095, .f32⟩
  | 80 => ⟨S4x4095x768, .f32⟩
  | 81 => ⟨S4x4095x768, .i1⟩
  | 82 => ⟨S4x4095x768, .i1⟩
  | 83 => ⟨S4x4095x768, .i1⟩
  | 84 => ⟨S4x4095x768, .i32⟩
  | 85 => ⟨S4x4095x768, .f32⟩
  | 86 => ⟨S_, .f32⟩
  | 87 => ⟨S_, .f32⟩
  | 88 => ⟨S4x4095x768, .i1⟩
  | 89 => ⟨S_, .f32⟩
  | 90 => ⟨S4x4095x768, .f32⟩
  | 91 => ⟨S4x4095x768, .f32⟩
  | 92 => ⟨S_, .f32⟩
  | 93 => ⟨S_, .f32⟩
  | 94 => ⟨S_, .f32⟩
  | 95 => ⟨S4x4095x768, .f32⟩
  | 96 => ⟨S4x4095x768, .f32⟩
  | 97 => ⟨S4x4095x768, .i1⟩
  | 98 => ⟨S4x4095x768, .i1⟩
  | 99 => ⟨S4x4095x768, .i1⟩
  | 100 => ⟨S4x4095x768, .i32⟩
  | 101 => ⟨S4x4095x768, .f32⟩
  | 102 => ⟨S_, .f32⟩
  | 103 => ⟨S_, .f32⟩
  | 104 => ⟨S4x4095x768, .i1⟩
  | 105 => ⟨S_, .f32⟩
  | 106 => ⟨S4x4095x768, .f32⟩
  | 107 => ⟨S4x4095x768, .f32⟩
  | 108 => ⟨S_, .f32⟩
  | 109 => ⟨S_, .f32⟩
  | 110 => ⟨S_, .f32⟩
  | 111 => ⟨S4x4095x768, .f32⟩
  | 112 => ⟨S4x4095x768, .f32⟩
  | 113 => ⟨S4x4095x768, .f32⟩
  | 114 => ⟨S4x4095x768, .f32⟩
  | 115 => ⟨S4x4095x768, .f32⟩
  | 116 => ⟨S4x4095x768, .f32⟩
  | 117 => ⟨S4x768x4095, .f32⟩
  | 118 => ⟨S4x768x32, .f32⟩
  | 119 => ⟨S4x768x32, .i32⟩
  | 120 => ⟨S4x32x768, .i32⟩
  | 121 => ⟨S_, .i32⟩
  | 122 => ⟨S4x32x768, .i32⟩
  | 123 => ⟨S4x32x768, .i1⟩
  | 124 => ⟨S_, .i32⟩
  | 125 => ⟨S4x32x768, .i32⟩
  | 126 => ⟨S4x32x768, .i32⟩
  | 127 => ⟨S4x32x768, .i32⟩
  | _ => ⟨S4x8192x768, .f32⟩

abbrev hbmTy0_1 (i : Nat) : BufTy := match i % 128 with
  | 0 => ⟨S4x32x768x1, .i32⟩
  | 1 => ⟨S4x32x768, .f32⟩
  | 2 => ⟨S_, .i32⟩
  | 3 => ⟨S4x32x768, .i32⟩
  | 4 => ⟨S4x32x768, .i1⟩
  | 5 => ⟨S_, .i32⟩
  | 6 => ⟨S4x32x768, .i32⟩
  | 7 => ⟨S4x32x768, .i32⟩
  | 8 => ⟨S4x32x768, .i32⟩
  | 9 => ⟨S4x32x768x1, .i32⟩
  | 10 => ⟨S4x32x768, .f32⟩
  | 11 => ⟨S32, .i32⟩
  | 12 => ⟨S_, .f32⟩
  | 13 => ⟨S_, .f32⟩
  | 14 => ⟨S_, .f32⟩
  | 15 => ⟨S_, .f32⟩
  | 16 => ⟨S_, .f32⟩
  | 17 => ⟨S8192x1, .i32⟩
  | 18 => ⟨S1x32, .i32⟩
  | 19 => ⟨S8192x32, .i32⟩
  | 20 => ⟨S8192x32, .i32⟩
  | 21 => ⟨S8192x32, .i32⟩
  | 22 => ⟨S8192x32, .f32⟩
  | 23 => ⟨S8192x32, .f32⟩
  | 24 => ⟨S8192x32, .f32⟩
  | 25 => ⟨S_, .f32⟩
  | 26 => ⟨S8192x32, .f32⟩
  | 27 => ⟨S8192x32, .f32⟩
  | 28 => ⟨S_, .i32⟩
  | 29 => ⟨S32, .i32⟩
  | 30 => ⟨S32, .i1⟩
  | 31 => ⟨S_, .f32⟩
  | 32 => ⟨S_, .f32⟩
  | 33 => ⟨S32, .f32⟩
  | 34 => ⟨S32, .f32⟩
  | 35 => ⟨S32, .f32⟩
  | 36 => ⟨S1x32, .f32⟩
  | 37 => ⟨S_, .f32⟩
  | 38 => ⟨S1x32, .f32⟩
  | 39 => ⟨S1x32, .f32⟩
  | 40 => ⟨S8192x32, .f32⟩
  | 41 => ⟨S1x32, .f32⟩
  | 42 => ⟨S8192x32, .f32⟩
  | 43 => ⟨S8192x32, .f32⟩
  | 44 => ⟨S4x768x8192, .f32⟩
  | 45 => ⟨S4x8192x768, .f32⟩
  | 46 => ⟨S8192x32, .f32⟩
  | 47 => ⟨S1x32, .f32⟩
  | 48 => ⟨S8192x32, .f32⟩
  | 49 => ⟨S8192x32, .f32⟩
  | 50 => ⟨S4x768x8192, .f32⟩
  | 51 => ⟨S4x8192x768, .f32⟩
  | 52 => ⟨S4x8192x768, .f32⟩
  | 53 => ⟨S4x8192x768, .f32⟩
  | 54 => ⟨S4x8192x768, .f32⟩
  | 55 => ⟨S4x8192x768, .f32⟩
  | 56 => ⟨S4x8192x768, .f32⟩
  | _ => ⟨S4x8192x768, .f32⟩

abbrev hbmTy (i : Nat) : BufTy := match i / 128 with
  | 0 => hbmTy0_0 i
  | 1 => hbmTy0_1 i
  | _ => ⟨S4x8192x768, .f32⟩

abbrev bufTy : (tb : Table) → Fin (tcTables nBuf tb) → BufTy
  | .hbm, ⟨i, _⟩ => hbmTy i
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_v12 : Ref sig .tc := ⟨.hbm, 24, rfl⟩
abbrev main_call0_call0_cst_3 : Ref sig .tc := ⟨.hbm, 25, rfl⟩
abbrev main_call0_call0_v13 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v11 : Ref sig .tc := ⟨.hbm, 46, rfl⟩
abbrev main_cst_4 : Ref sig .tc := ⟨.hbm, 47, rfl⟩
abbrev main_v12 : Ref sig .tc := ⟨.hbm, 48, rfl⟩
abbrev main_cst_5 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_6 : Ref sig .tc := ⟨.hbm, 55, rfl⟩
abbrev main_v18 : Ref sig .tc := ⟨.hbm, 56, rfl⟩
abbrev main_v19 : Ref sig .tc := ⟨.hbm, 57, rfl⟩
abbrev main_cst_7 : Ref sig .tc := ⟨.hbm, 58, rfl⟩
abbrev main_cst_8 : Ref sig .tc := ⟨.hbm, 59, rfl⟩
abbrev main_v20 : Ref sig .tc := ⟨.hbm, 60, rfl⟩
abbrev main_cst_9 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_cst : Ref sig .tc := ⟨.hbm, 86, rfl⟩
abbrev main_call2_v4 : Ref sig .tc := ⟨.hbm, 87, rfl⟩
abbrev main_call2_call0_v0 : Ref sig .tc := ⟨.hbm, 88, rfl⟩
abbrev main_call2_call0_cst : Ref sig .tc := ⟨.hbm, 89, rfl⟩
abbrev main_call2_call0_call0_v0 : Ref sig .tc := ⟨.hbm, 90, rfl⟩
abbrev main_call2_call0_v1 : Ref sig .tc := ⟨.hbm, 91, rfl⟩
abbrev main_call2_call0_cst_0 : Ref sig .tc := ⟨.hbm, 92, rfl⟩
abbrev main_call2_v5 : Ref sig .tc := ⟨.hbm, 93, rfl⟩
abbrev main_v40 : Ref sig .tc := ⟨.hbm, 94, rfl⟩
abbrev main_call3_v0 : Ref sig .tc := ⟨.hbm, 95, rfl⟩
abbrev main_v41 : Ref sig .tc := ⟨.hbm, 96, rfl⟩
abbrev main_v42 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_cst : Ref sig .tc := ⟨.hbm, 102, rfl⟩
abbrev main_call4_v4 : Ref sig .tc := ⟨.hbm, 103, rfl⟩
abbrev main_call4_call0_v0 : Ref sig .tc := ⟨.hbm, 104, rfl⟩
abbrev main_call4_call0_cst : Ref sig .tc := ⟨.hbm, 105, rfl⟩
abbrev main_call4_call0_call0_v0 : Ref sig .tc := ⟨.hbm, 106, rfl⟩
abbrev main_call4_call0_v1 : Ref sig .tc := ⟨.hbm, 107, rfl⟩
abbrev main_call4_call0_cst_0 : Ref sig .tc := ⟨.hbm, 108, rfl⟩
abbrev main_call4_v5 : Ref sig .tc := ⟨.hbm, 109, rfl⟩
abbrev main_v43 : Ref sig .tc := ⟨.hbm, 110, rfl⟩
abbrev main_call5_v0 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_values : Ref sig .tc := ⟨.hbm, 118, rfl⟩
abbrev main_indices : Ref sig .tc := ⟨.hbm, 119, rfl⟩
abbrev main_v50 : Ref sig .tc := ⟨.hbm, 120, rfl⟩
abbrev main_call6_c : Ref sig .tc := ⟨.hbm, 121, rfl⟩
abbrev main_call6_v0 : Ref sig .tc := ⟨.hbm, 122, rfl⟩
abbrev main_call6_v1 : Ref sig .tc := ⟨.hbm, 123, rfl⟩
abbrev main_call6_c_0 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_v51 : Ref sig .tc := ⟨.hbm, 129, rfl⟩
abbrev main_call7_c : Ref sig .tc := ⟨.hbm, 130, rfl⟩
abbrev main_call7_v0 : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_v52 : Ref sig .tc := ⟨.hbm, 138, rfl⟩
abbrev main_v53 : Ref sig .tc := ⟨.hbm, 139, rfl⟩
abbrev main_cst_11 : Ref sig .tc := ⟨.hbm, 140, rfl⟩
abbrev main_cst_12 : Ref sig .tc := ⟨.hbm, 141, rfl⟩
abbrev main_v54 : Ref sig .tc := ⟨.hbm, 142, rfl⟩
abbrev main_cst_13 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_cst_14 : Ref sig .tc := ⟨.hbm, 153, rfl⟩
abbrev main_v64 : Ref sig .tc := ⟨.hbm, 154, rfl⟩
abbrev main_v65 : Ref sig .tc := ⟨.hbm, 155, rfl⟩
abbrev main_c_15 : Ref sig .tc := ⟨.hbm, 156, rfl⟩
abbrev main_v66 : Ref sig .tc := ⟨.hbm, 157, rfl⟩
abbrev main_v67 : Ref sig .tc := ⟨.hbm, 158, rfl⟩
abbrev main_cst_16 : Ref sig .tc := ⟨.hbm, 159, rfl⟩
abbrev main_cst_17 : Ref sig .tc := ⟨.hbm, 160, rfl⟩
abbrev main_call8_v0 : Ref sig .tc := ⟨.hbm, 161, rfl⟩
abbrev main_call8_v1 : Ref sig .tc := ⟨.hbm, 162, rfl⟩
abbrev main_v68 : Ref sig .tc := ⟨.hbm, 163, rfl⟩
abbrev main_v69 : Ref sig .tc := ⟨.hbm, 164, rfl⟩
abbrev main_cst_18 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩

abbrev nD : Nat := 1
abbrev τ : Topo := Topo.v7x

variable {F : FTy → Type} [FloatOps F]
-- ==== Proof.Steps.lean ====
module

public import proofs.«01_k».proof.Proof.Gen.KernelIdeal.Value

/-!
The selection part of the kernel, as an iterated step on the candidates held per pair of rows.
Every named value of the kernel's body from the first candidates on is identified with a field of
an iterate of `step`, and the block the body stores is read off as one payload of those iterates.
-/

@[expose] public section

set_option maxRecDepth 65536

noncomputable section

namespace Cert.Select

open Idealize.ShloMosaic Idealize.SL.Sem
open Cert.KernelIdeal Cert.KernelIdeal.Gen

variable {F : FTy → Type} [FloatOps F]

/-- The candidates of one block: per pair of rows, the larger entry (its value, coefficients and
row) and what stays behind it. -/
structure State (F : FTy → Type) [FloatOps F] where
  lre : FVec F S2048x128 .f32
  lim : FVec F S2048x128 .f32
  lrow : IVec S2048x128 32
  wval : FVec F S2048x128 .f32
  wre : FVec F S2048x128 .f32
  wim : FVec F S2048x128 .f32
  wrow : IVec S2048x128 32
  lval : FVec F S2048x128 .f32

/-- Marks, per column, the candidate of the largest value, and among equal values the one of the
least row. -/
def State.hit (s : State F) : IVec S2048x128 1 :=
  cmpi .eq s.wrow (broadcastTo S2048x128 (shapeCast S1x128 (multiReductionI .minsi [0] S128
    (select (cmpf .oeq s.wval (broadcastTo S2048x128 (shapeCast S1x128
      (multiReduction .maximumf [0] S128 s.wval 0xFF800000#32 reduces_S2048x128_S128 (.inl rfl) rfl)
      shapeCasts_S128_S1x128) broadcasts_S1x128_S2048x128)) s.wrow (broadcast S2048x128 8192#32))
    2147483647#32 reduces_S2048x128_S128 rfl) shapeCasts_S128_S1x128) broadcasts_S1x128_S2048x128)

/-- What is kept of a plane at the marked candidates, zero elsewhere. -/
def masked (h : IVec S2048x128 1) (x : FVec F S2048x128 .f32) : FVec F S2048x128 .f32 :=
  select h x (broadcast S2048x128 (Scalar.ofBits .f32 0x00000000#32))

/-- The marked candidate of each column of a plane, as a sum over the rows. -/
def picked (h : IVec S2048x128 1) (x : FVec F S2048x128 .f32) : FVec F S128 .f32 :=
  multiReduction .add [0] S128 (masked h x) 0x00000000#32 reduces_S2048x128_S128 (.inl rfl) rfl

/-- The real part picked at a state. -/
def State.re (s : State F) : FVec F S128 .f32 := picked s.hit s.wre

/-- The imaginary part picked at a state. -/
def State.im (s : State F) : FVec F S128 .f32 := picked s.hit s.wim

/-- One selection: the marked candidates give way to the entries behind them. -/
def State.step (s : State F) : State F where
  lre := s.lre
  lim := s.lim
  lrow := s.lrow
  wval := select s.hit s.lval s.wval
  wre := select s.hit s.lre s.wre
  wim := select s.hit s.lim s.wim
  wrow := select s.hit s.lrow s.wrow
  lval := select s.hit (broadcast S2048x128 (Scalar.ofBits .f32 0xBF800000#32)) s.lval

/-- The candidates before the first selection, from the two halves of the three planes. -/
def State.start (a b ra rb ia ib : FVec F S2048x128 .f32) : State F where
  lre := select (cmpf .oge a b) rb ra
  lim := select (cmpf .oge a b) ib ia
  lrow := addi (iota .tc S2048x128 32 [0] iota_S2048x128_d0_w32)
    (select (cmpf .oge a b) (broadcast S2048x128 2048#32) (broadcast S2048x128 0#32))
  wval := select (cmpf .oge a b) a b
  wre := select (cmpf .oge a b) ra rb
  wim := select (cmpf .oge a b) ia ib
  wrow := addi (iota .tc S2048x128 32 [0] iota_S2048x128_d0_w32)
    (select (cmpf .oge a b) (broadcast S2048x128 0#32) (broadcast S2048x128 2048#32))
  lval := select (cmpf .oge a b) b a

/-- The state after `n` selections. -/
def State.after (s : State F) : Nat → State F
  | 0 => s
  | n + 1 => (s.after n).step

/-- Taking the next selection, spelt backwards. -/
theorem State.step_after (s : State F) (n : Nat) : (s.after n).step = s.after (n + 1) := rfl

/-- The first selection and what the second one begins with, in the kernel's spelling. -/
theorem part_first (a b ra rb ia ib : FVec F S2048x128 .f32) :
    k0_pay32 ra rb (cmpf .oge a b) = (State.start a b ra rb ia ib).step.lre
    ∧ k0_pay33 ia ib (cmpf .oge a b) = (State.start a b ra rb ia ib).step.lim
    ∧ k0_pay34 (iota .tc S2048x128 32 [0] iota_S2048x128_d0_w32) (cmpf .oge a b)
      = (State.start a b ra rb ia ib).step.lrow
    ∧ k0_pay36 (iota .tc S2048x128 32 [0] iota_S2048x128_d0_w32) (cmpf .oge a b) (select (cmpf .oge a b) a b) (select (cmpf .oge a b) ra rb) 2048#32 k0_pay29
      = (State.start a b ra rb ia ib).re
    ∧ k0_pay37 (iota .tc S2048x128 32 [0] iota_S2048x128_d0_w32) (cmpf .oge a b) (select (cmpf .oge a b) a b) (select (cmpf .oge a b) ia ib) 2048#32 k0_pay29
      = (State.start a b ra rb ia ib).im
    ∧ k0_pay38 a b (iota .tc S2048x128 32 [0] iota_S2048x128_d0_w32) (cmpf .oge a b) (select (cmpf .oge a b) a b) 2048#32 k0_pay29
      = (State.start a b ra rb ia ib).step.wval
    ∧ k0_pay39 ra rb (iota .tc S2048x128 32 [0] iota_S2048x128_d0_w32) (cmpf .oge a b) (select (cmpf .oge a b) a b) (select (cmpf .oge a b) ra rb) 2048#32 k0_pay29
      = (State.start a b ra rb ia ib).step.wre
    ∧ k0_pay40 ia ib (iota .tc S2048x128 32 [0] iota_S2048x128_d0_w32) (cmpf .oge a b) (select (cmpf .oge a b) a b) (select (cmpf .oge a b) ia ib) 2048#32 k0_pay29
      = (State.start a b ra rb ia ib).step.wim
    ∧ k0_pay41 (iota .tc S2048x128 32 [0] iota_S2048x128_d0_w32) (cmpf .oge a b) (select (cmpf .oge a b) a b) 2048#32 k0_pay29
      = (State.start a b ra rb ia ib).step.wrow
    ∧ k0_pay42 a b (iota .tc S2048x128 32 [0] iota_S2048x128_d0_w32) (cmpf .oge a b) (select (cmpf .oge a b) a b) 2048#32 k0_pay29
      = (State.start a b ra rb ia ib).step.lval
    ∧ k0_pay43 a b (iota .tc S2048x128 32 [0] iota_S2048x128_d0_w32) (cmpf .oge a b) (select (cmpf .oge a b) a b) 2048#32 k0_pay29
      = (State.start a b ra rb ia ib).step.hit
    ∧ k0_pay44 a b ra rb (iota .tc S2048x128 32 [0] iota_S2048x128_d0_w32) (cmpf .oge a b) (select (cmpf .oge a b) a b) (select (cmpf .oge a b) ra rb) 2048#32 k0_pay29
      = (State.start a b ra rb ia ib).step.re := by
  simp only [k0_pay29, k0_pay30, k0_pay31, k0_pay32, k0_pay33, k0_pay34, k0_pay35, k0_pay36, k0_pay37, k0_pay38, k0_pay39, k0_pay40, k0_pay41, k0_pay42, k0_pay43, k0_pay44, State.re, State.im, picked, masked,
    State.step, State.start, State.hit, and_self]

/-- Selections 1 to 3, in the kernel's spelling. -/
theorem part_1 (s : State F) :
    k0_pay45 s.wim s.hit = s.im
    ∧ k0_pay52 s.lre s.lrow s.wval s.wre s.wrow s.lval s.hit = s.step.re
    ∧ k0_pay53 s.lim s.lrow s.wval s.wim s.wrow s.lval s.hit = s.step.im
    ∧ k0_pay54 s.lrow s.wval s.wrow s.lval s.hit = s.step.step.wval
    ∧ k0_pay55 s.lre s.lrow s.wval s.wre s.wrow s.lval s.hit = s.step.step.wre
    ∧ k0_pay56 s.lim s.lrow s.wval s.wim s.wrow s.lval s.hit = s.step.step.wim
    ∧ k0_pay57 s.lrow s.wval s.wrow s.lval s.hit = s.step.step.wrow
    ∧ k0_pay58 s.lrow s.wval s.wrow s.lval s.hit = s.step.step.lval
    ∧ k0_pay59 s.lrow s.wval s.wrow s.lval s.hit = s.step.step.hit
    ∧ k0_pay60 s.lre s.lrow s.wval s.wre s.wrow s.lval s.hit = s.step.step.re := by
  simp only [k0_pay45, k0_pay46, k0_pay47, k0_pay48, k0_pay49, k0_pay50, k0_pay51, k0_pay52, k0_pay53, k0_pay54, k0_pay55, k0_pay56, k0_pay57, k0_pay58, k0_pay59, k0_pay60, State.re, State.im, picked, masked,
    State.step, State.start, State.hit, and_self]

/-- Selections 3 to 5, in the kernel's spelling. -/
theorem part_2 (s : State F) :
    k0_pay61 s.wim s.hit = s.im
    ∧ k0_pay68 s.lre s.lrow s.wval s.wre s.wrow s.lval s.hit = s.step.re
    ∧ k0_pay69 s.lim s.lrow s.wval s.wim s.wrow s.lval s.hit = s.step.im
    ∧ k0_pay70 s.lrow s.wval s.wrow s.lval s.hit = s.step.step.wval
    ∧ k0_pay71 s.lre s.lrow s.wval s.wre s.wrow s.lval s.hit = s.step.step.wre
    ∧ k0_pay72 s.lim s.lrow s.wval s.wim s.wrow s.lval s.hit = s.step.step.wim
    ∧ k0_pay73 s.lrow s.wval s.wrow s.lval s.hit = s.step.step.wrow
    ∧ k0_pay74 s.lrow s.wval s.wrow s.lval s.hit = s.step.step.lval
    ∧ k0_pay75 s.lrow s.wval s.wrow s.lval s.hit = s.step.step.hit
    ∧ k0_pay76 s.lre s.lrow s.wval s.wre s.wrow s.lval s.hit = s.step.step.re :=
  part_1 s

/-- Selections 5 to 7, in the kernel's spelling. -/
theorem part_3 (s : State F) :
    k0_pay77 s.wim s.hit = s.im
    ∧ k0_pay84 s.lre s.lrow s.wval s.wre s.wrow s.lval s.hit = s.step.re
    ∧ k0_pay85 s.lim s.lrow s.wval s.wim s.wrow s.lval s.hit = s.step.im
    ∧ k0_pay86 s.lrow s.wval s.wrow s.lval s.hit = s.step.step.wval
    ∧ k0_pay87 s.lre s.lrow s.wval s.wre s.wrow s.lval s.hit = s.step.step.wre
    ∧ k0_pay88 s.lim s.lrow s.wval s.wim s.wrow s.lval s.hit = s.step.step.wim
    ∧ k0_pay89 s.lrow s.wval s.wrow s.lval s.hit = s.step.step.wrow
    ∧ k0_pay90 s.lrow s.wval s.wrow s.lval s.hit = s.step.step.lval
    ∧ k0_pay91 s.lrow s.wval s.wrow s.lval s.hit = s.step.step.hit
    ∧ k0_pay92 s.lre s.lrow s.wval s.wre s.wrow s.lval s.hit = s.step.step.re :=
  part_1 s

/-- Selections 7 to 9, in the kernel's spelling. -/
theorem part_4 (s : State F) :
    k0_pay93 s.wim s.hit = s.im
    ∧ k0_pay100 s.lre s.lrow s.wval s.wre s.wrow s.lval s.hit = s.step.re
    ∧ k0_pay101 s.lim s.lrow s.wval s.wim s.wrow s.lval s.hit = s.step.im
    ∧ k0_pay102 s.lrow s.wval s.wrow s.lval s.hit = s.step.step.wval
    ∧ k0_pay103 s.lre s.lrow s.wval s.wre s.wrow s.lval s.hit = s.step.step.wre
    ∧ k0_pay104 s.lim s.lrow s.wval s.wim s.wrow s.lval s.hit = s.step.step.wim
    ∧ k0_pay105 s.lrow s.wval s.wrow s.lval s.hit = s.step.step.wrow
    ∧ k0_pay106 s.lrow s.wval s.wrow s.lval s.hit = s.step.step.lval
    ∧ k0_pay107 s.lrow s.wval s.wrow s.lval s.hit = s.step.step.hit
    ∧ k0_pay108 s.lre s.lrow s.wval s.wre s.wrow s.lval s.hit = s.step.step.re :=
  part_1 s

/-- Selections 9 to 11, in the kernel's spelling. -/
theorem part_5 (s : State F) :
    k0_pay109 s.wim s.hit = s.im
    ∧ k0_pay116 s.lre s.lrow s.wval s.wre s.wrow s.lval s.hit = s.step.re
    ∧ k0_pay117 s.lim s.lrow s.wval s.wim s.wrow s.lval s.hit = s.step.im
    ∧ k0_pay118 s.lrow s.wval s.wrow s.lval s.hit = s.step.step.wval
    ∧ k0_pay119 s.lre s.lrow s.wval s.wre s.wrow s.lval s.hit = s.step.step.wre
    ∧ k0_pay120 s.lim s.lrow s.wval s.wim s.wrow s.lval s.hit = s.step.step.wim
    ∧ k0_pay121 s.lrow s.wval s.wrow s.lval s.hit = s.step.step.wrow
    ∧ k0_pay122 s.lrow s.wval s.wrow s.lval s.hit = s.step.step.lval
    ∧ k0_pay123 s.lrow s.wval s.wrow s.lval s.hit = s.step.step.hit
    ∧ k0_pay124 s.lre s.lrow s.wval s.wre s.wrow s.lval s.hit = s.step.step.re :=
  part_1 s

/-- Selections 11 to 13, in the kernel's spelling. -/
theorem part_6 (s : State F) :
    k0_pay125 s.wim s.hit = s.im
    ∧ k0_pay132 s.lre s.lrow s.wval s.wre s.wrow s.lval s.hit = s.step.re
    ∧ k0_pay133 s.lim s.lrow s.wval s.wim s.wrow s.lval s.hit = s.step.im
    ∧ k0_pay134 s.lrow s.wval s.wrow s.lval s.hit = s.step.step.wval
    ∧ k0_pay135 s.lre s.lrow s.wval s.wre s.wrow s.lval s.hit = s.step.step.wre
    ∧ k0_pay136 s.lim s.lrow s.wval s.wim s.wrow s.lval s.hit = s.step.step.wim
    ∧ k0_pay137 s.lrow s.wval s.wrow s.lval s.hit = s.step.step.wrow
    ∧ k0_pay138 s.lrow s.wval s.wrow s.lval s.hit = s.step.step.lval
    ∧ k0_pay139 s.lrow s.wval s.wrow s.lval s.hit = s.step.step.hit
    ∧ k0_pay140 s.lre s.lrow s.wval s.wre s.wrow s.lval s.hit = s.step.step.re :=
  part_1 s

/-- Selections 13 to 15, in the kernel's spelling. -/
theorem part_7 (s : State F) :
    k0_pay141 s.wim s.hit = s.im
    ∧ k0_pay148 s.lre s.lrow s.wval s.wre s.wrow s.lval s.hit = s.step.re
    ∧ k0_pay149 s.lim s.lrow s.wval s.wim s.wrow s.lval s.hit = s.step.im
    ∧ k0_pay150 s.lrow s.wval s.wrow s.lval s.hit = s.step.step.wval
    ∧ k0_pay151 s.lre s.lrow s.wval s.wre s.wrow s.lval s.hit = s.step.step.wre
    ∧ k0_pay152 s.lim s.lrow s.wval s.wim s.wrow s.lval s.hit = s.step.step.wim
    ∧ k0_pay153 s.lrow s.wval s.wrow s.lval s.hit = s.step.step.wrow
    ∧ k0_pay154 s.lrow s.wval s.wrow s.lval s.hit = s.step.step.lval
    ∧ k0_pay155 s.lrow s.wval s.wrow s.lval s.hit = s.step.step.hit
    ∧ k0_pay156 s.lre s.lrow s.wval s.wre s.wrow s.lval s.hit = s.step.step.re :=
  part_1 s

/-- Selections 15 to 17, in the kernel's spelling. -/
theorem part_8 (s : State F) :
    k0_pay157 s.wim s.hit = s.im
    ∧ k0_pay164 s.lre s.lrow s.wval s.wre s.wrow s.lval s.hit = s.step.re
    ∧ k0_pay165 s.lim s.lrow s.wval s.wim s.wrow s.lval s.hit = s.step.im
    ∧ k0_pay166 s.lrow s.wval s.wrow s.lval s.hit = s.step.step.wval
    ∧ k0_pay167 s.lre s.lrow s.wval s.wre s.wrow s.lval s.hit = s.step.step.wre
    ∧ k0_pay168 s.lim s.lrow s.wval s.wim s.wrow s.lval s.hit = s.step.step.wim
    ∧ k0_pay169 s.lrow s.wval s.wrow s.lval s.hit = s.step.step.wrow
    ∧ k0_pay170 s.lrow s.wval s.wrow s.lval s.hit = s.step.step.lval
    ∧ k0_pay171 s.lrow s.wval s.wrow s.lval s.hit = s.step.step.hit
    ∧ k0_pay172 s.lre s.lrow s.wval s.wre s.wrow s.lval s.hit = s.step.step.re :=
  part_1 s

/-- Selections 17 to 19, in the kernel's spelling. -/
theorem part_9 (s : State F) :
    k0_pay173 s.wim s.hit = s.im
    ∧ k0_pay180 s.lre s.lrow s.wval s.wre s.wrow s.lval s.hit = s.step.re
    ∧ k0_pay181 s.lim s.lrow s.wval s.wim s.wrow s.lval s.hit = s.step.im
    ∧ k0_pay182 s.lrow s.wval s.wrow s.lval s.hit = s.step.step.wval
    ∧ k0_pay183 s.lre s.lrow s.wval s.wre s.wrow s.lval s.hit = s.step.step.wre
    ∧ k0_pay184 s.lim s.lrow s.wval s.wim s.wrow s.lval s.hit = s.step.step.wim
    ∧ k0_pay185 s.lrow s.wval s.wrow s.lval s.hit = s.step.step.wrow
    ∧ k0_pay186 s.lrow s.wval s.wrow s.lval s.hit = s.step.step.lval
    ∧ k0_pay187 s.lrow s.wval s.wrow s.lval s.hit = s.step.step.hit
    ∧ k0_pay188 s.lre s.lrow s.wval s.wre s.wrow s.lval s.hit = s.step.step.re :=
  part_1 s

/-- Selections 19 to 21, in the kernel's spelling. -/
theorem part_10 (s : State F) :
    k0_pay189 s.wim s.hit = s.im
    ∧ k0_pay196 s.lre s.lrow s.wval s.wre s.wrow s.lval s.hit = s.step.re
    ∧ k0_pay197 s.lim s.lrow s.wval s.wim s.wrow s.lval s.hit = s.step.im
    ∧ k0_pay198 s.lrow s.wval s.wrow s.lval s.hit = s.step.step.wval
    ∧ k0_pay199 s.lre s.lrow s.wval s.wre s.wrow s.lval s.hit = s.step.step.wre
    ∧ k0_pay200 s.lim s.lrow s.wval s.wim s.wrow s.lval s.hit = s.step.step.wim
    ∧ k0_pay201 s.lrow s.wval s.wrow s.lval s.hit = s.step.step.wrow
    ∧ k0_pay202 s.lrow s.wval s.wrow s.lval s.hit = s.step.step.lval
    ∧ k0_pay203 s.lrow s.wval s.wrow s.lval s.hit = s.step.step.hit
    ∧ k0_pay204 s.lre s.lrow s.wval s.wre s.wrow s.lval s.hit = s.step.step.re :=
  part_1 s

/-- Selections 21 to 23, in the kernel's spelling. -/
theorem part_11 (s : State F) :
    k0_pay205 s.wim s.hit = s.im
    ∧ k0_pay212 s.lre s.lrow s.wval s.wre s.wrow s.lval s.hit = s.step.re
    ∧ k0_pay213 s.lim s.lrow s.wval s.wim s.wrow s.lval s.hit = s.step.im
    ∧ k0_pay214 s.lrow s.wval s.wrow s.lval s.hit = s.step.step.wval
    ∧ k0_pay215 s.lre s.lrow s.wval s.wre s.wrow s.lval s.hit = s.step.step.wre
    ∧ k0_pay216 s.lim s.lrow s.wval s.wim s.wrow s.lval s.hit = s.step.step.wim
    ∧ k0_pay217 s.lrow s.wval s.wrow s.lval s.hit = s.step.step.wrow
    ∧ k0_pay218 s.lrow s.wval s.wrow s.lval s.hit = s.step.step.lval
    ∧ k0_pay219 s.lrow s.wval s.wrow s.lval s.hit = s.step.step.hit
    ∧ k0_pay220 s.lre s.lrow s.wval s.wre s.wrow s.lval s.hit = s.step.step.re :=
  part_1 s

/-- Selections 23 to 25, in the kernel's spelling. -/
theorem part_12 (s : State F) :
    k0_pay221 s.wim s.hit = s.im
    ∧ k0_pay228 s.lre s.lrow s.wval s.wre s.wrow s.lval s.hit = s.step.re
    ∧ k0_pay229 s.lim s.lrow s.wval s.wim s.wrow s.lval s.hit = s.step.im
    ∧ k0_pay230 s.lrow s.wval s.wrow s.lval s.hit = s.step.step.wval
    ∧ k0_pay231 s.lre s.lrow s.wval s.wre s.wrow s.lval s.hit = s.step.step.wre
    ∧ k0_pay232 s.lim s.lrow s.wval s.wim s.wrow s.lval s.hit = s.step.step.wim
    ∧ k0_pay233 s.lrow s.wval s.wrow s.lval s.hit = s.step.step.wrow
    ∧ k0_pay234 s.lrow s.wval s.wrow s.lval s.hit = s.step.step.lval
    ∧ k0_pay235 s.lrow s.wval s.wrow s.lval s.hit = s.step.step.hit
    ∧ k0_pay236 s.lre s.lrow s.wval s.wre s.wrow s.lval s.hit = s.step.step.re :=
  part_1 s

/-- Selections 25 to 27, in the kernel's spelling. -/
theorem part_13 (s : State F) :
    k0_pay237 s.wim s.hit = s.im
    ∧ k0_pay244 s.lre s.lrow s.wval s.wre s.wrow s.lval s.hit = s.step.re
    ∧ k0_pay245 s.lim s.lrow s.wval s.wim s.wrow s.lval s.hit = s.step.im
    ∧ k0_pay246 s.lrow s.wval s.wrow s.lval s.hit = s.step.step.wval
    ∧ k0_pay247 s.lre s.lrow s.wval s.wre s.wrow s.lval s.hit = s.step.step.wre
    ∧ k0_pay248 s.lim s.lrow s.wval s.wim s.wrow s.lval s.hit = s.step.step.wim
    ∧ k0_pay249 s.lrow s.wval s.wrow s.lval s.hit = s.step.step.wrow
    ∧ k0_pay250 s.lrow s.wval s.wrow s.lval s.hit = s.step.step.lval
    ∧ k0_pay251 s.lrow s.wval s.wrow s.lval s.hit = s.step.step.hit
    ∧ k0_pay252 s.lre s.lrow s.wval s.wre s.wrow s.lval s.hit = s.step.step.re :=
  part_1 s

/-- Selections 27 to 29, in the kernel's spelling. -/
theorem part_14 (s : State F) :
    k0_pay253 s.wim s.hit = s.im
    ∧ k0_pay260 s.lre s.lrow s.wval s.wre s.wrow s.lval s.hit = s.step.re
    ∧ k0_pay261 s.lim s.lrow s.wval s.wim s.wrow s.lval s.hit = s.step.im
    ∧ k0_pay262 s.lrow s.wval s.wrow s.lval s.hit = s.step.step.wval
    ∧ k0_pay263 s.lre s.lrow s.wval s.wre s.wrow s.lval s.hit = s.step.step.wre
    ∧ k0_pay264 s.lim s.lrow s.wval s.wim s.wrow s.lval s.hit = s.step.step.wim
    ∧ k0_pay265 s.lrow s.wval s.wrow s.lval s.hit = s.step.step.wrow
    ∧ k0_pay266 s.lrow s.wval s.wrow s.lval s.hit = s.step.step.lval
    ∧ k0_pay267 s.lrow s.wval s.wrow s.lval s.hit = s.step.step.hit
    ∧ k0_pay268 s.lre s.lrow s.wval s.wre s.wrow s.lval s.hit = s.step.step.re :=
  part_1 s

/-- The last three selections, in the kernel's spelling. -/
theorem part_last (s : State F) :
    k0_pay269 s.wim s.hit = s.im
    ∧ k0_pay275 s.lre s.lrow s.wval s.wre s.wrow s.lval s.hit = s.step.re
    ∧ k0_pay276 s.lim s.lrow s.wval s.wim s.wrow s.lval s.hit = s.step.im
    ∧ k0_pay278 s.lre s.lrow s.wval s.wre s.wrow s.lval s.hit = s.step.step.re
    ∧ k0_pay280 (k0_pay279 s.lim s.lrow s.wval s.wim s.wrow s.lval s.hit) = s.step.step.im := by
  simp only [k0_pay269, k0_pay270, k0_pay271, k0_pay272, k0_pay273, k0_pay274, k0_pay275, k0_pay276, k0_pay277, k0_pay278, k0_pay279, k0_pay280, State.re, State.im, picked, masked,
    State.step, State.start, State.hit, and_self]

end Cert.Select

end
-- ==== Proof.Piece.lean ====
module

public import proofs.«01_k».proof.Proof.Steps
public import Idealize.ShloMosaic.Lib.WholeRead

/-!
The block one grid point of the kernel leaves, as the synthesis of the coefficients picked in the
thirty-two selections.
-/

@[expose] public section

set_option maxRecDepth 65536

noncomputable section

namespace Cert.Select

open Idealize.ShloMosaic Idealize.SL.Sem
open Cert.KernelIdeal Cert.KernelIdeal.Gen

variable {F : FTy → Type} [FloatOps F]

/-- A load of a whole buffer through the rectangle at zero offsets of the buffer's own sizes reads
what the buffer holds. -/
theorem load_whole {sp : Space} {s : Shape} {e : EltTy} {m : Memref sig .tc sp s e} (h : m.IsWhole)
    (X : s.Idx → Elt F e) {off : Fin s.rank → Nat} (ho : off = fun _ => 0)
    (inb : ∀ a, off a + s.size a ≤ s.size a) :
    View.readAt (Elt F) m.view (Rect.unit off s.size inb).toLoadRect (h.unread X) = X := by
  funext x
  refine (h.readAt_unread X _ x).trans ?_
  exact congrFun (View.ld_unit_zero ho inb X) x

/-- Zero offsets on two axes. -/
theorem zero2 : (![0, 0] : Fin 2 → Nat) = fun _ => 0 := funext fun a => by fin_cases a <;> rfl

/-- Zero offsets on three axes. -/
theorem zero3 : (![0, 0, 0] : Fin 3 → Nat) = fun _ => 0 := funext fun a => by fin_cases a <;> rfl

/-- What stays behind the candidates does not change. -/
theorem State.after_lre (s : State F) (n : Nat) : (s.after n).lre = s.lre := by
  induction n with
  | zero => simp only [State.after]
  | succ n ih => simp only [State.after, State.step, ih]

/-- What stays behind the candidates does not change. -/
theorem State.after_lim (s : State F) (n : Nat) : (s.after n).lim = s.lim := by
  induction n with
  | zero => simp only [State.after]
  | succ n ih => simp only [State.after, State.step, ih]

/-- What stays behind the candidates does not change. -/
theorem State.after_lrow (s : State F) (n : Nat) : (s.after n).lrow = s.lrow := by
  induction n with
  | zero => simp only [State.after]
  | succ n ih => simp only [State.after, State.step, ih]

/-- Selections following the `n`th, in the kernel's spelling. -/
theorem seq_1 (s : State F) (n : Nat) :
    k0_pay45 (s.after n).wim (s.after n).hit = (s.after n).im
    ∧ k0_pay52 s.lre s.lrow (s.after n).wval (s.after n).wre (s.after n).wrow (s.after n).lval (s.after n).hit = (s.after (n + 1)).re
    ∧ k0_pay53 s.lim s.lrow (s.after n).wval (s.after n).wim (s.after n).wrow (s.after n).lval (s.after n).hit = (s.after (n + 1)).im
    ∧ k0_pay54 s.lrow (s.after n).wval (s.after n).wrow (s.after n).lval (s.after n).hit = (s.after (n + 1 + 1)).wval
    ∧ k0_pay55 s.lre s.lrow (s.after n).wval (s.after n).wre (s.after n).wrow (s.after n).lval (s.after n).hit = (s.after (n + 1 + 1)).wre
    ∧ k0_pay56 s.lim s.lrow (s.after n).wval (s.after n).wim (s.after n).wrow (s.after n).lval (s.after n).hit = (s.after (n + 1 + 1)).wim
    ∧ k0_pay57 s.lrow (s.after n).wval (s.after n).wrow (s.after n).lval (s.after n).hit = (s.after (n + 1 + 1)).wrow
    ∧ k0_pay58 s.lrow (s.after n).wval (s.after n).wrow (s.after n).lval (s.after n).hit = (s.after (n + 1 + 1)).lval
    ∧ k0_pay59 s.lrow (s.after n).wval (s.after n).wrow (s.after n).lval (s.after n).hit = (s.after (n + 1 + 1)).hit
    ∧ k0_pay60 s.lre s.lrow (s.after n).wval (s.after n).wre (s.after n).wrow (s.after n).lval (s.after n).hit = (s.after (n + 1 + 1)).re := by
  simpa only [State.after_lre, State.after_lim, State.after_lrow, State.step_after] using part_1 (s.after n)

/-- Selections following the `n`th, in the kernel's spelling. -/
theorem seq_2 (s : State F) (n : Nat) :
    k0_pay61 (s.after n).wim (s.after n).hit = (s.after n).im
    ∧ k0_pay68 s.lre s.lrow (s.after n).wval (s.after n).wre (s.after n).wrow (s.after n).lval (s.after n).hit = (s.after (n + 1)).re
    ∧ k0_pay69 s.lim s.lrow (s.after n).wval (s.after n).wim (s.after n).wrow (s.after n).lval (s.after n).hit = (s.after (n + 1)).im
    ∧ k0_pay70 s.lrow (s.after n).wval (s.after n).wrow (s.after n).lval (s.after n).hit = (s.after (n + 1 + 1)).wval
    ∧ k0_pay71 s.lre s.lrow (s.after n).wval (s.after n).wre (s.after n).wrow (s.after n).lval (s.after n).hit = (s.after (n + 1 + 1)).wre
    ∧ k0_pay72 s.lim s.lrow (s.after n).wval (s.after n).wim (s.after n).wrow (s.after n).lval (s.after n).hit = (s.after (n + 1 + 1)).wim
    ∧ k0_pay73 s.lrow (s.after n).wval (s.after n).wrow (s.after n).lval (s.after n).hit = (s.after (n + 1 + 1)).wrow
    ∧ k0_pay74 s.lrow (s.after n).wval (s.after n).wrow (s.after n).lval (s.after n).hit = (s.after (n + 1 + 1)).lval
    ∧ k0_pay75 s.lrow (s.after n).wval (s.after n).wrow (s.after n).lval (s.after n).hit = (s.after (n + 1 + 1)).hit
    ∧ k0_pay76 s.lre s.lrow (s.after n).wval (s.after n).wre (s.after n).wrow (s.after n).lval (s.after n).hit = (s.after (n + 1 + 1)).re := by
  simpa only [State.after_lre, State.after_lim, State.after_lrow, State.step_after] using part_2 (s.after n)

/-- Selections following the `n`th, in the kernel's spelling. -/
theorem seq_3 (s : State F) (n : Nat) :
    k0_pay77 (s.after n).wim (s.after n).hit = (s.after n).im
    ∧ k0_pay84 s.lre s.lrow (s.after n).wval (s.after n).wre (s.after n).wrow (s.after n).lval (s.after n).hit = (s.after (n + 1)).re
    ∧ k0_pay85 s.lim s.lrow (s.after n).wval (s.after n).wim (s.after n).wrow (s.after n).lval (s.after n).hit = (s.after (n + 1)).im
    ∧ k0_pay86 s.lrow (s.after n).wval (s.after n).wrow (s.after n).lval (s.after n).hit = (s.after (n + 1 + 1)).wval
    ∧ k0_pay87 s.lre s.lrow (s.after n).wval (s.after n).wre (s.after n).wrow (s.after n).lval (s.after n).hit = (s.after (n + 1 + 1)).wre
    ∧ k0_pay88 s.lim s.lrow (s.after n).wval (s.after n).wim (s.after n).wrow (s.after n).lval (s.after n).hit = (s.after (n + 1 + 1)).wim
    ∧ k0_pay89 s.lrow (s.after n).wval (s.after n).wrow (s.after n).lval (s.after n).hit = (s.after (n + 1 + 1)).wrow
    ∧ k0_pay90 s.lrow (s.after n).wval (s.after n).wrow (s.after n).lval (s.after n).hit = (s.after (n + 1 + 1)).lval
    ∧ k0_pay91 s.lrow (s.after n).wval (s.after n).wrow (s.after n).lval (s.after n).hit = (s.after (n + 1 + 1)).hit
    ∧ k0_pay92 s.lre s.lrow (s.after n).wval (s.after n).wre (s.after n).wrow (s.after n).lval (s.after n).hit = (s.after (n + 1 + 1)).re := by
  simpa only [State.after_lre, State.after_lim, State.after_lrow, State.step_after] using part_3 (s.after n)

/-- Selections following the `n`th, in the kernel's spelling. -/
theorem seq_4 (s : State F) (n : Nat) :
    k0_pay93 (s.after n).wim (s.after n).hit = (s.after n).im
    ∧ k0_pay100 s.lre s.lrow (s.after n).wval (s.after n).wre (s.after n).wrow (s.after n).lval (s.after n).hit = (s.after (n + 1)).re
    ∧ k0_pay101 s.lim s.lrow (s.after n).wval (s.after n).wim (s.after n).wrow (s.after n).lval (s.after n).hit = (s.after (n + 1)).im
    ∧ k0_pay102 s.lrow (s.after n).wval (s.after n).wrow (s.after n).lval (s.after n).hit = (s.after (n + 1 + 1)).wval
    ∧ k0_pay103 s.lre s.lrow (s.after n).wval (s.after n).wre (s.after n).wrow (s.after n).lval (s.after n).hit = (s.after (n + 1 + 1)).wre
    ∧ k0_pay104 s.lim s.lrow (s.after n).wval (s.after n).wim (s.after n).wrow (s.after n).lval (s.after n).hit = (s.after (n + 1 + 1)).wim
    ∧ k0_pay105 s.lrow (s.after n).wval (s.after n).wrow (s.after n).lval (s.after n).hit = (s.after (n + 1 + 1)).wrow
    ∧ k0_pay106 s.lrow (s.after n).wval (s.after n).wrow (s.after n).lval (s.after n).hit = (s.after (n + 1 + 1)).lval
    ∧ k0_pay107 s.lrow (s.after n).wval (s.after n).wrow (s.after n).lval (s.after n).hit = (s.after (n + 1 + 1)).hit
    ∧ k0_pay108 s.lre s.lrow (s.after n).wval (s.after n).wre (s.after n).wrow (s.after n).lval (s.after n).hit = (s.after (n + 1 + 1)).re := by
  simpa only [State.after_lre, State.after_lim, State.after_lrow, State.step_after] using part_4 (s.after n)

/-- Selections following the `n`th, in the kernel's spelling. -/
theorem seq_5 (s : State F) (n : Nat) :
    k0_pay109 (s.after n).wim (s.after n).hit = (s.after n).im
    ∧ k0_pay116 s.lre s.lrow (s.after n).wval (s.after n).wre (s.after n).wrow (s.after n).lval (s.after n).hit = (s.after (n + 1)).re
    ∧ k0_pay117 s.lim s.lrow (s.after n).wval (s.after n).wim (s.after n).wrow (s.after n).lval (s.after n).hit = (s.after (n + 1)).im
    ∧ k0_pay118 s.lrow (s.after n).wval (s.after n).wrow (s.after n).lval (s.after n).hit = (s.after (n + 1 + 1)).wval
    ∧ k0_pay119 s.lre s.lrow (s.after n).wval (s.after n).wre (s.after n).wrow (s.after n).lval (s.after n).hit = (s.after (n + 1 + 1)).wre
    ∧ k0_pay120 s.lim s.lrow (s.after n).wval (s.after n).wim (s.after n).wrow (s.after n).lval (s.after n).hit = (s.after (n + 1 + 1)).wim
    ∧ k0_pay121 s.lrow (s.after n).wval (s.after n).wrow (s.after n).lval (s.after n).hit = (s.after (n + 1 + 1)).wrow
    ∧ k0_pay122 s.lrow (s.after n).wval (s.after n).wrow (s.after n).lval (s.after n).hit = (s.after (n + 1 + 1)).lval
    ∧ k0_pay123 s.lrow (s.after n).wval (s.after n).wrow (s.after n).lval (s.after n).hit = (s.after (n + 1 + 1)).hit
    ∧ k0_pay124 s.lre s.lrow (s.after n).wval (s.after n).wre (s.after n).wrow (s.after n).lval (s.after n).hit = (s.after (n + 1 + 1)).re := by
  simpa only [State.after_lre, State.after_lim, State.after_lrow, State.step_after] using part_5 (s.after n)

/-- Selections following the `n`th, in the kernel's spelling. -/
theorem seq_6 (s : State F) (n : Nat) :
    k0_pay125 (s.after n).wim (s.after n).hit = (s.after n).im
    ∧ k0_pay132 s.lre s.lrow (s.after n).wval (s.after n).wre (s.after n).wrow (s.after n).lval (s.after n).hit = (s.after (n + 1)).re
    ∧ k0_pay133 s.lim s.lrow (s.after n).wval (s.after n).wim (s.after n).wrow (s.after n).lval (s.after n).hit = (s.after (n + 1)).im
    ∧ k0_pay134 s.lrow (s.after n).wval (s.after n).wrow (s.after n).lval (s.after n).hit = (s.after (n + 1 + 1)).wval
    ∧ k0_pay135 s.lre s.lrow (s.after n).wval (s.after n).wre (s.after n).wrow (s.after n).lval (s.after n).hit = (s.after (n + 1 + 1)).wre
    ∧ k0_pay136 s.lim s.lrow (s.after n).wval (s.after n).wim (s.after n).wrow (s.after n).lval (s.after n).hit = (s.after (n + 1 + 1)).wim
    ∧ k0_pay137 s.lrow (s.after n).wval (s.after n).wrow (s.after n).lval (s.after n).hit = (s.after (n + 1 + 1)).wrow
    ∧ k0_pay138 s.lrow (s.after n).wval (s.after n).wrow (s.after n).lval (s.after n).hit = (s.after (n + 1 + 1)).lval
    ∧ k0_pay139 s.lrow (s.after n).wval (s.after n).wrow (s.after n).lval (s.after n).hit = (s.after (n + 1 + 1)).hit
    ∧ k0_pay140 s.lre s.lrow (s.after n).wval (s.after n).wre (s.after n).wrow (s.after n).lval (s.after n).hit = (s.after (n + 1 + 1)).re := by
  simpa only [State.after_lre, State.after_lim, State.after_lrow, State.step_after] using part_6 (s.after n)

/-- Selections following the `n`th, in the kernel's spelling. -/
theorem seq_7 (s : State F) (n : Nat) :
    k0_pay141 (s.after n).wim (s.after n).hit = (s.after n).im
    ∧ k0_pay148 s.lre s.lrow (s.after n).wval (s.after n).wre (s.after n).wrow (s.after n).lval (s.after n).hit = (s.after (n + 1)).re
    ∧ k0_pay149 s.lim s.lrow (s.after n).wval (s.after n).wim (s.after n).wrow (s.after n).lval (s.after n).hit = (s.after (n + 1)).im
    ∧ k0_pay150 s.lrow (s.after n).wval (s.after n).wrow (s.after n).lval (s.after n).hit = (s.after (n + 1 + 1)).wval
    ∧ k0_pay151 s.lre s.lrow (s.after n).wval (s.after n).wre (s.after n).wrow (s.after n).lval (s.after n).hit = (s.after (n + 1 + 1)).wre
    ∧ k0_pay152 s.lim s.lrow (s.after n).wval (s.after n).wim (s.after n).wrow (s.after n).lval (s.after n).hit = (s.after (n + 1 + 1)).wim
    ∧ k0_pay153 s.lrow (s.after n).wval (s.after n).wrow (s.after n).lval (s.after n).hit = (s.after (n + 1 + 1)).wrow
    ∧ k0_pay154 s.lrow (s.after n).wval (s.after n).wrow (s.after n).lval (s.after n).hit = (s.after (n + 1 + 1)).lval
    ∧ k0_pay155 s.lrow (s.after n).wval (s.after n).wrow (s.after n).lval (s.after n).hit = (s.after (n + 1 + 1)).hit
    ∧ k0_pay156 s.lre s.lrow (s.after n).wval (s.after n).wre (s.after n).wrow (s.after n).lval (s.after n).hit = (s.after (n + 1 + 1)).re := by
  simpa only [State.after_lre, State.after_lim, State.after_lrow, State.step_after] using part_7 (s.after n)

/-- Selections following the `n`th, in the kernel's spelling. -/
theorem seq_8 (s : State F) (n : Nat) :
    k0_pay157 (s.after n).wim (s.after n).hit = (s.after n).im
    ∧ k0_pay164 s.lre s.lrow (s.after n).wval (s.after n).wre (s.after n).wrow (s.after n).lval (s.after n).hit = (s.after (n + 1)).re
    ∧ k0_pay165 s.lim s.lrow (s.after n).wval (s.after n).wim (s.after n).wrow (s.after n).lval (s.after n).hit = (s.after (n + 1)).im
    ∧ k0_pay166 s.lrow (s.after n).wval (s.after n).wrow (s.after n).lval (s.after n).hit = (s.after (n + 1 + 1)).wval
    ∧ k0_pay167 s.lre s.lrow (s.after n).wval (s.after n).wre (s.after n).wrow (s.after n).lval (s.after n).hit = (s.after (n + 1 + 1)).wre
    ∧ k0_pay168 s.lim s.lrow (s.after n).wval (s.after n).wim (s.after n).wrow (s.after n).lval (s.after n).hit = (s.after (n + 1 + 1)).wim
    ∧ k0_pay169 s.lrow (s.after n).wval (s.after n).wrow (s.after n).lval (s.after n).hit = (s.after (n + 1 + 1)).wrow
    ∧ k0_pay170 s.lrow (s.after n).wval (s.after n).wrow (s.after n).lval (s.after n).hit = (s.after (n + 1 + 1)).lval
    ∧ k0_pay171 s.lrow (s.after n).wval (s.after n).wrow (s.after n).lval (s.after n).hit = (s.after (n + 1 + 1)).hit
    ∧ k0_pay172 s.lre s.lrow (s.after n).wval (s.after n).wre (s.after n).wrow (s.after n).lval (s.after n).hit = (s.after (n + 1 + 1)).re := by
  simpa only [State.after_lre, State.after_lim, State.after_lrow, State.step_after] using part_8 (s.after n)

/-- Selections following the `n`th, in the kernel's spelling. -/
theorem seq_9 (s : State F) (n : Nat) :
    k0_pay173 (s.after n).wim (s.after n).hit = (s.after n).im
    ∧ k0_pay180 s.lre s.lrow (s.after n).wval (s.after n).wre (s.after n).wrow (s.after n).lval (s.after n).hit = (s.after (n + 1)).re
    ∧ k0_pay181 s.lim s.lrow (s.after n).wval (s.after n).wim (s.after n).wrow (s.after n).lval (s.after n).hit = (s.after (n + 1)).im
    ∧ k0_pay182 s.lrow (s.after n).wval (s.after n).wrow (s.after n).lval (s.after n).hit = (s.after (n + 1 + 1)).wval
    ∧ k0_pay183 s.lre s.lrow (s.after n).wval (s.after n).wre (s.after n).wrow (s.after n).lval (s.after n).hit = (s.after (n + 1 + 1)).wre
    ∧ k0_pay184 s.lim s.lrow (s.after n).wval (s.after n).wim (s.after n).wrow (s.after n).lval (s.after n).hit = (s.after (n + 1 + 1)).wim
    ∧ k0_pay185 s.lrow (s.after n).wval (s.after n).wrow (s.after n).lval (s.after n).hit = (s.after (n + 1 + 1)).wrow
    ∧ k0_pay186 s.lrow (s.after n).wval (s.after n).wrow (s.after n).lval (s.after n).hit = (s.after (n + 1 + 1)).lval
    ∧ k0_pay187 s.lrow (s.after n).wval (s.after n).wrow (s.after n).lval (s.after n).hit = (s.after (n + 1 + 1)).hit
    ∧ k0_pay188 s.lre s.lrow (s.after n).wval (s.after n).wre (s.after n).wrow (s.after n).lval (s.after n).hit = (s.after (n + 1 + 1)).re := by
  simpa only [State.after_lre, State.after_lim, State.after_lrow, State.step_after] using part_9 (s.after n)

/-- Selections following the `n`th, in the kernel's spelling. -/
theorem seq_10 (s : State F) (n : Nat) :
    k0_pay189 (s.after n).wim (s.after n).hit = (s.after n).im
    ∧ k0_pay196 s.lre s.lrow (s.after n).wval (s.after n).wre (s.after n).wrow (s.after n).lval (s.after n).hit = (s.after (n + 1)).re
    ∧ k0_pay197 s.lim s.lrow (s.after n).wval (s.after n).wim (s.after n).wrow (s.after n).lval (s.after n).hit = (s.after (n + 1)).im
    ∧ k0_pay198 s.lrow (s.after n).wval (s.after n).wrow (s.after n).lval (s.after n).hit = (s.after (n + 1 + 1)).wval
    ∧ k0_pay199 s.lre s.lrow (s.after n).wval (s.after n).wre (s.after n).wrow (s.after n).lval (s.after n).hit = (s.after (n + 1 + 1)).wre
    ∧ k0_pay200 s.lim s.lrow (s.after n).wval (s.after n).wim (s.after n).wrow (s.after n).lval (s.after n).hit = (s.after (n + 1 + 1)).wim
    ∧ k0_pay201 s.lrow (s.after n).wval (s.after n).wrow (s.after n).lval (s.after n).hit = (s.after (n + 1 + 1)).wrow
    ∧ k0_pay202 s.lrow (s.after n).wval (s.after n).wrow (s.after n).lval (s.after n).hit = (s.after (n + 1 + 1)).lval
    ∧ k0_pay203 s.lrow (s.after n).wval (s.after n).wrow (s.after n).lval (s.after n).hit = (s.after (n + 1 + 1)).hit
    ∧ k0_pay204 s.lre s.lrow (s.after n).wval (s.after n).wre (s.after n).wrow (s.after n).lval (s.after n).hit = (s.after (n + 1 + 1)).re := by
  simpa only [State.after_lre, State.after_lim, State.after_lrow, State.step_after] using part_10 (s.after n)

/-- Selections following the `n`th, in the kernel's spelling. -/
theorem seq_11 (s : State F) (n : Nat) :
    k0_pay205 (s.after n).wim (s.after n).hit = (s.after n).im
    ∧ k0_pay212 s.lre s.lrow (s.after n).wval (s.after n).wre (s.after n).wrow (s.after n).lval (s.after n).hit = (s.after (n + 1)).re
    ∧ k0_pay213 s.lim s.lrow (s.after n).wval (s.after n).wim (s.after n).wrow (s.after n).lval (s.after n).hit = (s.after (n + 1)).im
    ∧ k0_pay214 s.lrow (s.after n).wval (s.after n).wrow (s.after n).lval (s.after n).hit = (s.after (n + 1 + 1)).wval
    ∧ k0_pay215 s.lre s.lrow (s.after n).wval (s.after n).wre (s.after n).wrow (s.after n).lval (s.after n).hit = (s.after (n + 1 + 1)).wre
    ∧ k0_pay216 s.lim s.lrow (s.after n).wval (s.after n).wim (s.after n).wrow (s.after n).lval (s.after n).hit = (s.after (n + 1 + 1)).wim
    ∧ k0_pay217 s.lrow (s.after n).wval (s.after n).wrow (s.after n).lval (s.after n).hit = (s.after (n + 1 + 1)).wrow
    ∧ k0_pay218 s.lrow (s.after n).wval (s.after n).wrow (s.after n).lval (s.after n).hit = (s.after (n + 1 + 1)).lval
    ∧ k0_pay219 s.lrow (s.after n).wval (s.after n).wrow (s.after n).lval (s.after n).hit = (s.after (n + 1 + 1)).hit
    ∧ k0_pay220 s.lre s.lrow (s.after n).wval (s.after n).wre (s.after n).wrow (s.after n).lval (s.after n).hit = (s.after (n + 1 + 1)).re := by
  simpa only [State.after_lre, State.after_lim, State.after_lrow, State.step_after] using part_11 (s.after n)

/-- Selections following the `n`th, in the kernel's spelling. -/
theorem seq_12 (s : State F) (n : Nat) :
    k0_pay221 (s.after n).wim (s.after n).hit = (s.after n).im
    ∧ k0_pay228 s.lre s.lrow (s.after n).wval (s.after n).wre (s.after n).wrow (s.after n).lval (s.after n).hit = (s.after (n + 1)).re
    ∧ k0_pay229 s.lim s.lrow (s.after n).wval (s.after n).wim (s.after n).wrow (s.after n).lval (s.after n).hit = (s.after (n + 1)).im
    ∧ k0_pay230 s.lrow (s.after n).wval (s.after n).wrow (s.after n).lval (s.after n).hit = (s.after (n + 1 + 1)).wval
    ∧ k0_pay231 s.lre s.lrow (s.after n).wval (s.after n).wre (s.after n).wrow (s.after n).lval (s.after n).hit = (s.after (n + 1 + 1)).wre
    ∧ k0_pay232 s.lim s.lrow (s.after n).wval (s.after n).wim (s.after n).wrow (s.after n).lval (s.after n).hit = (s.after (n + 1 + 1)).wim
    ∧ k0_pay233 s.lrow (s.after n).wval (s.after n).wrow (s.after n).lval (s.after n).hit = (s.after (n + 1 + 1)).wrow
    ∧ k0_pay234 s.lrow (s.after n).wval (s.after n).wrow (s.after n).lval (s.after n).hit = (s.after (n + 1 + 1)).lval
    ∧ k0_pay235 s.lrow (s.after n).wval (s.after n).wrow (s.after n).lval (s.after n).hit = (s.after (n + 1 + 1)).hit
    ∧ k0_pay236 s.lre s.lrow (s.after n).wval (s.after n).wre (s.after n).wrow (s.after n).lval (s.after n).hit = (s.after (n + 1 + 1)).re := by
  simpa only [State.after_lre, State.after_lim, State.after_lrow, State.step_after] using part_12 (s.after n)

/-- Selections following the `n`th, in the kernel's spelling. -/
theorem seq_13 (s : State F) (n : Nat) :
    k0_pay237 (s.after n).wim (s.after n).hit = (s.after n).im
    ∧ k0_pay244 s.lre s.lrow (s.after n).wval (s.after n).wre (s.after n).wrow (s.after n).lval (s.after n).hit = (s.after (n + 1)).re
    ∧ k0_pay245 s.lim s.lrow (s.after n).wval (s.after n).wim (s.after n).wrow (s.after n).lval (s.after n).hit = (s.after (n + 1)).im
    ∧ k0_pay246 s.lrow (s.after n).wval (s.after n).wrow (s.after n).lval (s.after n).hit = (s.after (n + 1 + 1)).wval
    ∧ k0_pay247 s.lre s.lrow (s.after n).wval (s.after n).wre (s.after n).wrow (s.after n).lval (s.after n).hit = (s.after (n + 1 + 1)).wre
    ∧ k0_pay248 s.lim s.lrow (s.after n).wval (s.after n).wim (s.after n).wrow (s.after n).lval (s.after n).hit = (s.after (n + 1 + 1)).wim
    ∧ k0_pay249 s.lrow (s.after n).wval (s.after n).wrow (s.after n).lval (s.after n).hit = (s.after (n + 1 + 1)).wrow
    ∧ k0_pay250 s.lrow (s.after n).wval (s.after n).wrow (s.after n).lval (s.after n).hit = (s.after (n + 1 + 1)).lval
    ∧ k0_pay251 s.lrow (s.after n).wval (s.after n).wrow (s.after n).lval (s.after n).hit = (s.after (n + 1 + 1)).hit
    ∧ k0_pay252 s.lre s.lrow (s.after n).wval (s.after n).wre (s.after n).wrow (s.after n).lval (s.after n).hit = (s.after (n + 1 + 1)).re := by
  simpa only [State.after_lre, State.after_lim, State.after_lrow, State.step_after] using part_13 (s.after n)

/-- Selections following the `n`th, in the kernel's spelling. -/
theorem seq_14 (s : State F) (n : Nat) :
    k0_pay253 (s.after n).wim (s.after n).hit = (s.after n).im
    ∧ k0_pay260 s.lre s.lrow (s.after n).wval (s.after n).wre (s.after n).wrow (s.after n).lval (s.after n).hit = (s.after (n + 1)).re
    ∧ k0_pay261 s.lim s.lrow (s.after n).wval (s.after n).wim (s.after n).wrow (s.after n).lval (s.after n).hit = (s.after (n + 1)).im
    ∧ k0_pay262 s.lrow (s.after n).wval (s.after n).wrow (s.after n).lval (s.after n).hit = (s.after (n + 1 + 1)).wval
    ∧ k0_pay263 s.lre s.lrow (s.after n).wval (s.after n).wre (s.after n).wrow (s.after n).lval (s.after n).hit = (s.after (n + 1 + 1)).wre
    ∧ k0_pay264 s.lim s.lrow (s.after n).wval (s.after n).wim (s.after n).wrow (s.after n).lval (s.after n).hit = (s.after (n + 1 + 1)).wim
    ∧ k0_pay265 s.lrow (s.after n).wval (s.after n).wrow (s.after n).lval (s.after n).hit = (s.after (n + 1 + 1)).wrow
    ∧ k0_pay266 s.lrow (s.after n).wval (s.after n).wrow (s.after n).lval (s.after n).hit = (s.after (n + 1 + 1)).lval
    ∧ k0_pay267 s.lrow (s.after n).wval (s.after n).wrow (s.after n).lval (s.after n).hit = (s.after (n + 1 + 1)).hit
    ∧ k0_pay268 s.lre s.lrow (s.after n).wval (s.after n).wre (s.after n).wrow (s.after n).lval (s.after n).hit = (s.after (n + 1 + 1)).re := by
  simpa only [State.after_lre, State.after_lim, State.after_lrow, State.step_after] using part_14 (s.after n)

/-- The last selections, in the kernel's spelling. -/
theorem seq_last (s : State F) (n : Nat) :
    k0_pay269 (s.after n).wim (s.after n).hit = (s.after n).im
    ∧ k0_pay275 s.lre s.lrow (s.after n).wval (s.after n).wre (s.after n).wrow (s.after n).lval (s.after n).hit = (s.after (n + 1)).re
    ∧ k0_pay276 s.lim s.lrow (s.after n).wval (s.after n).wim (s.after n).wrow (s.after n).lval (s.after n).hit = (s.after (n + 1)).im
    ∧ k0_pay278 s.lre s.lrow (s.after n).wval (s.after n).wre (s.after n).wrow (s.after n).lval (s.after n).hit = (s.after (n + 1 + 1)).re
    ∧ k0_pay280 (k0_pay279 s.lim s.lrow (s.after n).wval (s.after n).wim (s.after n).wrow (s.after n).lval (s.after n).hit) = (s.after (n + 1 + 1)).im := by
  simpa only [State.after_lre, State.after_lim, State.after_lrow, State.step_after] using part_last (s.after n)

/-- The first selections, in the kernel's spelling, from the candidates `s` the halves start with. -/
theorem seq_first (a b ra rb ia ib : FVec F S2048x128 .f32) (s : State F) (hs : State.start a b ra rb ia ib = s) :
    k0_pay32 ra rb (cmpf .oge a b) = s.lre
    ∧ k0_pay33 ia ib (cmpf .oge a b) = s.lim
    ∧ k0_pay34 (iota .tc S2048x128 32 [0] iota_S2048x128_d0_w32) (cmpf .oge a b) = s.lrow
    ∧ k0_pay36 (iota .tc S2048x128 32 [0] iota_S2048x128_d0_w32) (cmpf .oge a b) (select (cmpf .oge a b) a b) (select (cmpf .oge a b) ra rb) 2048#32 k0_pay29 = (s.after 0).re
    ∧ k0_pay37 (iota .tc S2048x128 32 [0] iota_S2048x128_d0_w32) (cmpf .oge a b) (select (cmpf .oge a b) a b) (select (cmpf .oge a b) ia ib) 2048#32 k0_pay29 = (s.after 0).im
    ∧ k0_pay38 a b (iota .tc S2048x128 32 [0] iota_S2048x128_d0_w32) (cmpf .oge a b) (select (cmpf .oge a b) a b) 2048#32 k0_pay29 = (s.after 1).wval
    ∧ k0_pay39 ra rb (iota .tc S2048x128 32 [0] iota_S2048x128_d0_w32) (cmpf .oge a b) (select (cmpf .oge a b) a b) (select (cmpf .oge a b) ra rb) 2048#32 k0_pay29 = (s.after 1).wre
    ∧ k0_pay40 ia ib (iota .tc S2048x128 32 [0] iota_S2048x128_d0_w32) (cmpf .oge a b) (select (cmpf .oge a b) a b) (select (cmpf .oge a b) ia ib) 2048#32 k0_pay29 = (s.after 1).wim
    ∧ k0_pay41 (iota .tc S2048x128 32 [0] iota_S2048x128_d0_w32) (cmpf .oge a b) (select (cmpf .oge a b) a b) 2048#32 k0_pay29 = (s.after 1).wrow
    ∧ k0_pay42 a b (iota .tc S2048x128 32 [0] iota_S2048x128_d0_w32) (cmpf .oge a b) (select (cmpf .oge a b) a b) 2048#32 k0_pay29 = (s.after 1).lval
    ∧ k0_pay43 a b (iota .tc S2048x128 32 [0] iota_S2048x128_d0_w32) (cmpf .oge a b) (select (cmpf .oge a b) a b) 2048#32 k0_pay29 = (s.after 1).hit
    ∧ k0_pay44 a b ra rb (iota .tc S2048x128 32 [0] iota_S2048x128_d0_w32) (cmpf .oge a b) (select (cmpf .oge a b) a b) (select (cmpf .oge a b) ra rb) 2048#32 k0_pay29 = (s.after 1).re := by
  subst hs
  exact part_first a b ra rb ia ib

/-- The thirty-two picked real parts, one per row. -/
def State.reRows (s : State F) : FVec F S32x128 .f32 :=
  k0_pay281 (s.after 0).re (s.after 1).re (s.after 2).re (s.after 3).re (s.after 4).re (s.after 5).re (s.after 6).re (s.after 7).re (s.after 8).re (s.after 9).re (s.after 10).re (s.after 11).re (s.after 12).re (s.after 13).re (s.after 14).re (s.after 15).re (s.after 16).re (s.after 17).re (s.after 18).re (s.after 19).re (s.after 20).re (s.after 21).re (s.after 22).re (s.after 23).re (s.after 24).re (s.after 25).re (s.after 26).re (s.after 27).re (s.after 28).re (s.after 29).re (s.after 30).re (s.after 31).re

/-- The thirty-two picked imaginary parts, one per row. -/
def State.imRows (s : State F) : FVec F S32x128 .f32 :=
  k0_pay1 (s.after 25).im (s.after 26).im (s.after 27).im (s.after 28).im (s.after 29).im (s.after 30).im (s.after 31).im (k0_pay282 (s.after 0).im) (k0_pay283 (s.after 1).im) (k0_pay284 (s.after 2).im) (k0_pay285 (s.after 3).im) (k0_pay286 (s.after 4).im) (k0_pay287 (s.after 5).im) (k0_pay288 (s.after 6).im) (k0_pay289 (s.after 7).im) (k0_pay290 (s.after 8).im) (k0_pay291 (s.after 9).im) (k0_pay292 (s.after 10).im) (k0_pay293 (s.after 11).im) (k0_pay294 (s.after 12).im) (k0_pay295 (s.after 13).im) (k0_pay296 (s.after 14).im) (k0_pay297 (s.after 15).im) (k0_pay298 (s.after 16).im) (k0_pay299 (s.after 17).im) (k0_pay300 (s.after 18).im) (k0_pay301 (s.after 19).im) (k0_pay302 (s.after 20).im) (k0_pay303 (s.after 21).im) (k0_pay304 (s.after 22).im) (k0_pay305 (s.after 23).im) (k0_pay306 (s.after 24).im)

/-- The pairing of the two halves, in the kernel's spelling. -/
theorem part_lead (v31 v32 : FVec F S128x64x128 .f32) (v35 : FVec F S128x64x1 .f32) (v36 : Vec F S128x64 .f32)
    (v53 v55 : Vec F S32x64 .f32) :
    k0_pay25 v31 v32 v35 v36 v53 v55 = cmpf .oge (k0_pay19 v31 v32 v35 v36 v53 v55) (k0_pay20 v31 v32 v35 v36 v53 v55)
    ∧ k0_pay26 v31 v32 v35 v36 v53 v55 = select (cmpf .oge (k0_pay19 v31 v32 v35 v36 v53 v55) (k0_pay20 v31 v32 v35 v36 v53 v55))
      (k0_pay19 v31 v32 v35 v36 v53 v55) (k0_pay20 v31 v32 v35 v36 v53 v55)
    ∧ k0_pay27 v31 v32 v35 v36 v53 v55 = select (cmpf .oge (k0_pay19 v31 v32 v35 v36 v53 v55) (k0_pay20 v31 v32 v35 v36 v53 v55))
      (k0_pay21 v31 v32 v35 v36 v53 v55) (k0_pay22 v31 v32 v35 v36 v53 v55)
    ∧ k0_pay28 v31 v32 v35 v36 v53 v55 = select (cmpf .oge (k0_pay19 v31 v32 v35 v36 v53 v55) (k0_pay20 v31 v32 v35 v36 v53 v55))
      (k0_pay23 v31 v32 v35 v36 v53 v55) (k0_pay24 v31 v32 v35 v36 v53 v55) :=
  ⟨rfl, rfl, rfl, rfl⟩

/-- The candidates the kernel starts its selections from, from the block of the argument and the
tables. -/
def startOf (x0 : Vec F S1x8192x128 .f32) (x1 x2 : Vec F S128x128 .f32) (x3 x4 : Vec F S128x64 .f32)
    (x5 x6 : Vec F S32x64 .f32) : State F :=
  State.start
    (k0_pay19 (k0_pay8 x0 x1) (k0_pay9 x0 x2) (k0_pay10 x3) x4 x5 x6)
    (k0_pay20 (k0_pay8 x0 x1) (k0_pay9 x0 x2) (k0_pay10 x3) x4 x5 x6)
    (k0_pay21 (k0_pay8 x0 x1) (k0_pay9 x0 x2) (k0_pay10 x3) x4 x5 x6)
    (k0_pay22 (k0_pay8 x0 x1) (k0_pay9 x0 x2) (k0_pay10 x3) x4 x5 x6)
    (k0_pay23 (k0_pay8 x0 x1) (k0_pay9 x0 x2) (k0_pay10 x3) x4 x5 x6)
    (k0_pay24 (k0_pay8 x0 x1) (k0_pay9 x0 x2) (k0_pay10 x3) x4 x5 x6)

/-- The block the body leaves, from the block of the argument and the tables. -/
def blockOf (x0 : Vec F S1x8192x128 .f32) (x1 x2 : Vec F S128x128 .f32) (x3 x4 : Vec F S128x64 .f32)
    (x5 x6 : Vec F S32x64 .f32) (x7 x8 : Vec F S8192x32 .f32) : FVec F S1x8192x128 .f32 :=
  k0_pay2 (k0_pay4 x0) (k0_pay6 x0) (startOf x0 x1 x2 x3 x4 x5 x6).reRows (startOf x0 x1 x2 x3 x4 x5 x6).imRows x7 x8

set_option maxHeartbeats 4000000 in
/-- The one store of the body holds `blockOf` of what the body loaded. -/
theorem run_pieces (c : Dev nD) (i : grid0.Coords) (arg2 : Memref sig .tc .vmem S1x8192x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x64 .f32) (harg5 : arg5.IsWhole) (arg6 : Memref sig .tc .vmem S128x64 .f32) (harg6 : arg6.IsWhole)
    (arg7 : Memref sig .tc .vmem S32x64 .f32) (harg7 : arg7.IsWhole) (arg8 : Memref sig .tc .vmem S32x64 .f32) (harg8 : arg8.IsWhole)
    (arg9 : Memref sig .tc .vmem S8192x32 .f32) (harg9 : arg9.IsWhole) (arg10 : Memref sig .tc .vmem S8192x32 .f32) (harg10 : arg10.IsWhole)
    (arg11 : Memref sig .tc .vmem S1x8192x128 .f32) (harg11 : arg11.IsWhole) (arg12 : Memref sig .tc .vmem S8x128 .f32) (harg12 : arg12.IsWhole)
    (x0 : Vec F S1x8192x128 .f32) (x1 : Vec F S128x128 .f32) (x2 : Vec F S128x128 .f32) (x3 : Vec F S128x64 .f32) (x4 : Vec F S128x64 .f32)
    (x5 : Vec F S32x64 .f32) (x6 : Vec F S32x64 .f32) (x7 : Vec F S8192x32 .f32) (x8 : Vec F S8192x32 .f32) :
    (kernelRun0_A c i arg2 harg2 arg3 harg3 arg4 harg4 arg5 harg5 arg6 harg6 arg7 harg7 arg8 harg8 arg9 harg9 arg10 harg10 arg11 harg11 arg12 harg12 x0 x1 x2 x3 x4 x5 x6 x7 x8).1
      = [⟨Rect.unit (s := S1x8192x128) ![0, 0, 0] S1x8192x128.size inb_S1x8192x128_S1x8192x128_0_0_0,
          blockOf x0 x1 x2 x3 x4 x5 x6 x7 x8⟩] := by
  have e0 : View.readAt (Elt F) arg2.view (Rect.unit (s := S1x8192x128) ![0, 0, 0] ![1, 8192, 128] inb_S1x8192x128_S1x8192x128_0_0_0).toLoadRect (harg2.unread x0) = x0 :=
    load_whole (F := F) harg2 x0 zero3 inb_S1x8192x128_S1x8192x128_0_0_0
  have e1 : View.readAt (Elt F) arg3.view (Rect.unit (s := S128x128) ![0, 0] ![128, 128] inb_S128x128_S128x128_0_0).toLoadRect (harg3.unread x1) = x1 :=
    load_whole (F := F) harg3 x1 zero2 inb_S128x128_S128x128_0_0
  have e2 : View.readAt (Elt F) arg4.view (Rect.unit (s := S128x128) ![0, 0] ![128, 128] inb_S128x128_S128x128_0_0).toLoadRect (harg4.unread x2) = x2 :=
    load_whole (F := F) harg4 x2 zero2 inb_S128x128_S128x128_0_0
  have e3 : View.readAt (Elt F) arg5.view (Rect.unit (s := S128x64) ![0, 0] ![128, 64] inb_S128x64_S128x64_0_0).toLoadRect (harg5.unread x3) = x3 :=
    load_whole (F := F) harg5 x3 zero2 inb_S128x64_S128x64_0_0
  have e4 : View.readAt (Elt F) arg6.view (Rect.unit (s := S128x64) ![0, 0] ![128, 64] inb_S128x64_S128x64_0_0).toLoadRect (harg6.unread x4) = x4 :=
    load_whole (F := F) harg6 x4 zero2 inb_S128x64_S128x64_0_0
  have e5 : View.readAt (Elt F) arg7.view (Rect.unit (s := S32x64) ![0, 0] ![32, 64] inb_S32x64_S32x64_0_0).toLoadRect (harg7.unread x5) = x5 :=
    load_whole (F := F) harg7 x5 zero2 inb_S32x64_S32x64_0_0
  have e6 : View.readAt (Elt F) arg8.view (Rect.unit (s := S32x64) ![0, 0] ![32, 64] inb_S32x64_S32x64_0_0).toLoadRect (harg8.unread x6) = x6 :=
    load_whole (F := F) harg8 x6 zero2 inb_S32x64_S32x64_0_0
  have e7 : View.readAt (Elt F) arg9.view (Rect.unit (s := S8192x32) ![0, 0] ![8192, 32] inb_S8192x32_S8192x32_0_0).toLoadRect (harg9.unread x7) = x7 :=
    load_whole (F := F) harg9 x7 zero2 inb_S8192x32_S8192x32_0_0
  have e8 : View.readAt (Elt F) arg10.view (Rect.unit (s := S8192x32) ![0, 0] ![8192, 32] inb_S8192x32_S8192x32_0_0).toLoadRect (harg10.unread x8) = x8 :=
    load_whole (F := F) harg10 x8 zero2 inb_S8192x32_S8192x32_0_0
  have p := seq_first (F := F)
    (k0_pay19 (k0_pay8 x0 x1) (k0_pay9 x0 x2) (k0_pay10 x3) x4 x5 x6)
    (k0_pay20 (k0_pay8 x0 x1) (k0_pay9 x0 x2) (k0_pay10 x3) x4 x5 x6)
    (k0_pay21 (k0_pay8 x0 x1) (k0_pay9 x0 x2) (k0_pay10 x3) x4 x5 x6)
    (k0_pay22 (k0_pay8 x0 x1) (k0_pay9 x0 x2) (k0_pay10 x3) x4 x5 x6)
    (k0_pay23 (k0_pay8 x0 x1) (k0_pay9 x0 x2) (k0_pay10 x3) x4 x5 x6)
    (k0_pay24 (k0_pay8 x0 x1) (k0_pay9 x0 x2) (k0_pay10 x3) x4 x5 x6)
    (startOf x0 x1 x2 x3 x4 x5 x6) rfl
  unfold kernelRun0_A
  dsimp only
  refine congrArg (fun w : FVec F S1x8192x128 .f32 =>
    ([⟨Rect.unit (s := S1x8192x128) ![0, 0, 0] S1x8192x128.size inb_S1x8192x128_S1x8192x128_0_0_0, w⟩] :
      List (View.Piece (Elt F) S1x8192x128 .f32))) ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.v79, e0, e1, e2, e3, e4, e5, e6, e7, e8, part_lead, p, seq_1, seq_2, seq_3, seq_4, seq_5, seq_6, seq_7, seq_8, seq_9, seq_10, seq_11, seq_12, seq_13, seq_14, seq_last, Nat.reduceAdd]
  simp only [blockOf, State.reRows, State.imRows]

end Cert.Select

end
-- ==== Proof.Choice.lean ====
module

public import Mathlib.Data.EReal.Operations
public import Mathlib.Data.Prod.Lex
public import Mathlib.Order.Interval.Finset.Nat
public import Mathlib.Data.Finset.Max
public import Mathlib.Data.EReal.Inv

/-!
Choosing the largest rows of one column

Rows `1 … 4095` carry extended-real keys.  `chosen A n` is the row that comes `n`-th when the rows are put in
order of key, largest first, equal keys by the smaller row.
-/

@[expose] public section

noncomputable section

namespace Cert.Choice

/-- Row `r` comes before row `r'`: its key is larger, or the keys agree and its number is smaller. -/
def Ahead (A : ℕ → EReal) (r r' : ℕ) : Prop := A r' < A r ∨ (A r = A r' ∧ r < r')

/-- The rows that may still be taken. -/
def rest (T : Finset ℕ) : Finset ℕ := Finset.Ico 1 4096 \ T

/-- The first of the remaining rows. -/
def best (A : ℕ → EReal) (T : Finset ℕ) : ℕ :=
  if h : (rest T).Nonempty then
    (Finset.exists_min_image (rest T) (fun r => toLex (OrderDual.toDual (A r), r)) h).choose
  else 0

/-- The rows taken in the first `n` steps. -/
def taken (A : ℕ → EReal) : ℕ → Finset ℕ
  | 0 => ∅
  | n + 1 => insert (best A (taken A n)) (taken A n)

/-- The row taken in step `n`. -/
def chosen (A : ℕ → EReal) (n : ℕ) : ℕ := best A (taken A n)

/-- A row is left when it is a row from 1 to 4095 that is not taken. -/
theorem mem_rest {T : Finset ℕ} {r : ℕ} : r ∈ rest T ↔ 1 ≤ r ∧ r < 4096 ∧ r ∉ T := by
  simp [rest, and_assoc]

/-- While fewer than 4095 rows are taken, `best` is a remaining row and comes before every other one. -/
theorem best_spec (A : ℕ → EReal) (T : Finset ℕ) (h : T.card < 4095) :
    best A T ∈ rest T ∧ ∀ r ∈ rest T, r ≠ best A T → Ahead A (best A T) r := by
  have hne : (rest T).Nonempty := by
    rw [← Finset.card_pos]
    have := Finset.le_card_sdiff T (Finset.Ico 1 4096)
    simp only [Nat.card_Ico] at this
    unfold rest
    omega
  have hs := (Finset.exists_min_image (rest T) (fun r => toLex (OrderDual.toDual (A r), r)) hne).choose_spec
  have hb : best A T = (Finset.exists_min_image (rest T) (fun r => toLex (OrderDual.toDual (A r), r)) hne).choose := by
    rw [best, dif_pos hne]
  rw [← hb] at hs
  refine ⟨hs.1, fun r hr hrb => ?_⟩
  have := hs.2 r hr
  rw [Prod.Lex.toLex_le_toLex] at this
  rcases this with h1 | ⟨h1, h2⟩
  · exact Or.inl (by simpa using h1)
  · exact Or.inr ⟨by simpa using h1, by simp only at h2; omega⟩

/-- After `n` steps at most `n` rows are taken. -/
theorem taken_card_le (A : ℕ → EReal) (n : ℕ) : (taken A n).card ≤ n := by
  induction n with
  | zero => simp [taken]
  | succ n ih => exact (Finset.card_insert_le _ _).trans (by omega)

/-- A row chosen in an earlier step is taken. -/
theorem chosen_mem (A : ℕ → EReal) {m n : ℕ} (h : m < n) : chosen A m ∈ taken A n := by
  induction n with
  | zero => omega
  | succ n ih =>
    rw [taken]
    rcases Nat.lt_succ_iff_lt_or_eq.1 h with h | rfl
    · exact Finset.mem_insert_of_mem (ih h)
    · exact Finset.mem_insert_self _ _

/-- A taken row was chosen in some earlier step. -/
theorem mem_taken (A : ℕ → EReal) {n r : ℕ} (h : r ∈ taken A n) : ∃ m < n, chosen A m = r := by
  induction n with
  | zero => simp [taken] at h
  | succ n ih =>
    rw [taken, Finset.mem_insert] at h
    rcases h with h | h
    · exact ⟨n, Nat.lt_succ_self n, h.symm⟩
    · obtain ⟨m, hm, e⟩ := ih h
      exact ⟨m, by omega, e⟩

/-- What `best_spec` says of step `n`. -/
theorem chosen_spec (A : ℕ → EReal) {n : ℕ} (hn : n < 4095) :
    (1 ≤ chosen A n ∧ chosen A n < 4096 ∧ chosen A n ∉ taken A n) ∧
      ∀ r, 1 ≤ r → r < 4096 → r ∉ taken A n → r ≠ chosen A n → Ahead A (chosen A n) r := by
  have h := best_spec A (taken A n) ((taken_card_le A n).trans_lt hn)
  exact ⟨mem_rest.1 h.1, fun r h1 h2 h3 h4 => h.2 r (mem_rest.2 ⟨h1, h2, h3⟩) h4⟩

/-- Different steps choose different rows. -/
theorem chosen_inj (A : ℕ → EReal) {m n : ℕ} (hm : m < 4095) (hn : n < 4095) (h : chosen A m = chosen A n) : m = n := by
  rcases lt_trichotomy m n with hlt | rfl | hlt
  · exact absurd (h ▸ chosen_mem A hlt) (chosen_spec A hn).1.2.2
  · rfl
  · exact absurd (h ▸ chosen_mem A hlt) (chosen_spec A hm).1.2.2

/-- An earlier step's row comes before a later step's. -/
theorem chosen_ahead (A : ℕ → EReal) {m n : ℕ} (hmn : m < n) (hn : n < 4095) : Ahead A (chosen A m) (chosen A n) := by
  have hs := chosen_spec A hn
  have hsub : taken A m ⊆ taken A n := by
    intro r hr
    obtain ⟨k, hk, rfl⟩ := mem_taken A hr
    exact chosen_mem A (hk.trans hmn)
  exact (chosen_spec A (hmn.trans hn)).2 _ hs.1.1 hs.1.2.1 (fun h => hs.1.2.2 (hsub h))
    (fun h => absurd (chosen_inj A hn (hmn.trans hn) h) (by omega))

/-- A row no step below `n + 1` chose comes after step `n`'s. -/
theorem chosen_dom (A : ℕ → EReal) {n r : ℕ} (hn : n < 4095) (h1 : 1 ≤ r) (h2 : r < 4096)
    (h : ∀ m ≤ n, chosen A m ≠ r) : Ahead A (chosen A n) r := by
  refine (chosen_spec A hn).2 r h1 h2 (fun hr => ?_) (fun e => h n le_rfl e.symm)
  obtain ⟨m, hm, e⟩ := mem_taken A hr
  exact h m hm.le e

/-! The pairs of rows `i` and `i + 2048` -/

/-- The row of pair `i` that comes first. -/
def win (A : ℕ → EReal) (i : ℕ) : ℕ := if A (i + 2048) ≤ A i then i else i + 2048

/-- The other row of pair `i`. -/
def lose (A : ℕ → EReal) (i : ℕ) : ℕ := if A (i + 2048) ≤ A i then i + 2048 else i

/-- The row of pair `i` in play once the rows of `T` are taken. -/
def cur (A : ℕ → EReal) (T : Finset ℕ) (i : ℕ) : ℕ := if win A i ∈ T then lose A i else win A i

/-- Of the two rows of a pair, one is the winner and the other one the loser. -/
theorem win_or (A : ℕ → EReal) (i : ℕ) :
    (win A i = i ∧ lose A i = i + 2048) ∨ (win A i = i + 2048 ∧ lose A i = i) := by
  unfold win lose; split <;> simp

/-- The row in play of a pair is one of the pair's own, and below 4096. -/
theorem cur_mod (A : ℕ → EReal) (T : Finset ℕ) {i : ℕ} (hi : i < 2048) : cur A T i % 2048 = i ∧ cur A T i < 4096 := by
  unfold cur
  rcases win_or A i with ⟨h1, h2⟩ | ⟨h1, h2⟩ <;> rw [h1, h2] <;> split <;> omega

/-- The loser of a pair is never ahead of its winner. -/
theorem not_lose_ahead (A : ℕ → EReal) (i : ℕ) : ¬ Ahead A (lose A i) (win A i) := by
  unfold Ahead win lose
  split
  · rename_i h
    rintro (h' | ⟨h1, h2⟩)
    · exact absurd h' (not_lt.2 h)
    · omega
  · rename_i h
    rintro (h' | ⟨h1, h2⟩)
    · exact absurd h'.le h
    · exact absurd h1.ge h

/-- What is known of a column once the rows of `T` are taken. -/
def Holds (A : ℕ → EReal) (T : Finset ℕ) (val wait : ℕ → EReal) (row : ℕ → ℕ) (i : ℕ) : Prop :=
  (lose A i ∈ T → win A i ∈ T) ∧ row i = cur A T i ∧ val i = (if lose A i ∈ T then -1 else A (cur A T i)) ∧
    wait i = (if win A i ∈ T then -1 else A (lose A i))

section
variable {A : ℕ → EReal} (h0 : A 0 = -1) (hpos : ∀ r, 1 ≤ r → r < 4096 → 0 ≤ A r)
include h0 hpos

/-- No winner is row 0. -/
theorem win_pos {i : ℕ} (hi : i < 2048) : 1 ≤ win A i := by
  unfold win
  split
  · rename_i h
    rcases Nat.eq_zero_or_pos i with rfl | h'
    · rw [h0] at h
      have := hpos (0 + 2048) (by norm_num) (by norm_num)
      exact absurd (this.trans h) (by norm_num)
    · exact h'
  · omega

/-- The row chosen next is the one in play in its pair. -/
theorem cur_chosen {n : ℕ} (hn : n < 4095) {val wait : ℕ → EReal} {row : ℕ → ℕ}
    (hH : ∀ i < 2048, Holds A (taken A n) val wait row i) :
    cur A (taken A n) (chosen A n % 2048) = chosen A n ∧ lose A (chosen A n % 2048) ∉ taken A n := by
  have hs := chosen_spec A hn
  set r := chosen A n with hr
  have hi : r % 2048 < 2048 := Nat.mod_lt _ (by norm_num)
  have hor : r = win A (r % 2048) ∨ r = lose A (r % 2048) := by
    rcases win_or A (r % 2048) with ⟨h1, h2⟩ | ⟨h1, h2⟩ <;> rw [h1, h2] <;> omega
  rcases hor with e | e
  · have hw : win A (r % 2048) ∉ taken A n := e ▸ hs.1.2.2
    exact ⟨by rw [cur, if_neg hw]; exact e.symm, fun hl => hw ((hH _ hi).1 hl)⟩
  · have hl : lose A (r % 2048) ∉ taken A n := e ▸ hs.1.2.2
    have hw : win A (r % 2048) ∈ taken A n := by
      by_contra hw
      have hwlt : win A (r % 2048) < 4096 := by
        rcases win_or A (r % 2048) with ⟨h1, h2⟩ | ⟨h1, h2⟩ <;> rw [h1] <;> omega
      have hne : win A (r % 2048) ≠ r := by
        rcases win_or A (r % 2048) with ⟨h1, h2⟩ | ⟨h1, h2⟩ <;> rw [h1] <;> rw [h2] at e <;> omega
      have := hs.2 (win A (r % 2048)) (win_pos h0 hpos hi) hwlt hw hne
      have hh := not_lose_ahead A (r % 2048)
      rw [← e] at hh
      exact hh this
    exact ⟨by rw [cur, if_pos hw]; exact e.symm, hl⟩

/-- The value in play is largest at the chosen row's pair, and among the pairs attaining it that pair's row is
    least. -/
theorem chosen_top {n : ℕ} (hn : n < 4095) {val wait : ℕ → EReal} {row : ℕ → ℕ}
    (hH : ∀ i < 2048, Holds A (taken A n) val wait row i) :
    row (chosen A n % 2048) = chosen A n ∧
      (∀ k < 2048, val k ≤ val (chosen A n % 2048)) ∧
      (∀ k < 2048, val k = val (chosen A n % 2048) → chosen A n ≤ row k) := by
  have hs := chosen_spec A hn
  obtain ⟨hc, hl⟩ := cur_chosen h0 hpos hn hH
  have hi : chosen A n % 2048 < 2048 := Nat.mod_lt _ (by norm_num)
  have hval : val (chosen A n % 2048) = A (chosen A n) := by rw [(hH _ hi).2.2.1, if_neg hl, hc]
  have hrp : 0 ≤ A (chosen A n) := hpos _ hs.1.1 hs.1.2.1
  have neg : (-1 : EReal) < 0 := by norm_num
  have key : ∀ k < 2048, (val k = -1) ∨ (val k = A (row k) ∧ 1 ≤ row k ∧ row k < 4096 ∧ row k ∉ taken A n) := by
    intro k hk
    obtain ⟨h1, h2, h3, h4⟩ := hH k hk
    by_cases hlk : lose A k ∈ taken A n
    · left; rw [h3, if_pos hlk]
    · rw [if_neg hlk] at h3
      rw [h3, h2]
      rcases Nat.eq_zero_or_pos (cur A (taken A n) k) with hz | hz
      · left; rw [hz, h0]
      · right
        refine ⟨rfl, hz, (cur_mod A _ hk).2, ?_⟩
        unfold cur; split
        · exact hlk
        · assumption
  refine ⟨by rw [(hH _ hi).2.1, hc], fun k hk => ?_, fun k hk e => ?_⟩
  · rw [hval]
    rcases key k hk with h | ⟨h, a, b, c⟩
    · rw [h]; exact neg.le.trans hrp
    · rw [h]
      by_cases he : row k = chosen A n
      · rw [he]
      · rcases hs.2 _ a b c he with h' | h'
        · exact h'.le
        · exact h'.1.ge
  · rw [hval] at e
    rcases key k hk with h | ⟨h, a, b, c⟩
    · rw [h] at e; exact absurd (e ▸ hrp) (not_le.2 neg)
    · by_cases he : row k = chosen A n
      · rw [he]
      · rcases hs.2 _ a b c he with h' | h'
        · rw [← h, e] at h'; exact absurd h' (lt_irrefl _)
        · exact h'.2.le

/-- Taking the chosen row: at its pair the waiting row comes into play, elsewhere nothing changes. -/
theorem holds_step {n : ℕ} (hn : n < 4095) {val wait val' wait' : ℕ → EReal} {row row' : ℕ → ℕ}
    (hH : ∀ i < 2048, Holds A (taken A n) val wait row i)
    (hval : ∀ i < 2048, val' i = if i = chosen A n % 2048 then wait i else val i)
    (hrow : ∀ i < 2048, row' i = if i = chosen A n % 2048 then lose A i else row i)
    (hwait : ∀ i < 2048, wait' i = if i = chosen A n % 2048 then -1 else wait i) :
    ∀ i < 2048, Holds A (taken A (n + 1)) val' wait' row' i := by
  intro i hi
  obtain ⟨h1, h2, h3, h4⟩ := hH i hi
  have hs := chosen_spec A hn
  have hmem : ∀ r, r ∈ taken A (n + 1) ↔ r = chosen A n ∨ r ∈ taken A n := fun r => by
    rw [taken, Finset.mem_insert]; rfl
  obtain ⟨hc, hl⟩ := cur_chosen h0 hpos hn hH
  by_cases e : i = chosen A n % 2048
  · rw [← e] at hc hl
    have hw' : win A i ∈ taken A (n + 1) := by
      rw [hmem]
      by_cases hw : win A i ∈ taken A n
      · exact Or.inr hw
      · rw [cur, if_neg hw] at hc; exact Or.inl hc
    refine ⟨fun _ => hw', ?_, ?_, ?_⟩
    · rw [hrow i hi, if_pos e, cur, if_pos hw']
    · rw [hval i hi, if_pos e, h4, cur, if_pos hw']
      by_cases hw : win A i ∈ taken A n
      · rw [cur, if_pos hw] at hc
        rw [if_pos hw, if_pos ((hmem _).2 (Or.inl hc))]
      · rw [cur, if_neg hw] at hc
        have hne : lose A i ≠ chosen A n := by
          rw [← hc]; rcases win_or A i with ⟨a, b⟩ | ⟨a, b⟩ <;> rw [a, b] <;> omega
        rw [if_neg hw, if_neg (fun h => ((hmem _).1 h).elim hne hl)]
    · rw [hwait i hi, if_pos e, if_pos hw']
  · have hn1 : win A i ≠ chosen A n := by
      intro h; apply e; rw [← h]; rcases win_or A i with ⟨a, b⟩ | ⟨a, b⟩ <;> rw [a] <;> omega
    have hn2 : lose A i ≠ chosen A n := by
      intro h; apply e; rw [← h]; rcases win_or A i with ⟨a, b⟩ | ⟨a, b⟩ <;> rw [b] <;> omega
    have m1 : win A i ∈ taken A (n + 1) ↔ win A i ∈ taken A n := by rw [hmem]; simp [hn1]
    have m2 : lose A i ∈ taken A (n + 1) ↔ lose A i ∈ taken A n := by rw [hmem]; simp [hn2]
    have hcur : cur A (taken A (n + 1)) i = cur A (taken A n) i := by simp only [cur, m1]
    refine ⟨by rw [m1, m2]; exact h1, ?_, ?_, ?_⟩
    · rw [hrow i hi, if_neg e, hcur, h2]
    · rw [hval i hi, if_neg e, hcur, h3]; simp only [m2]
    · rw [hwait i hi, if_neg e, h4]; simp only [m1]

end

end Cert.Choice

end
-- ==== Proof.Column.lean ====
module

public import proofs.«01_k».proof.Proof.Steps
public import proofs.«01_k».proof.Proof.Choice
public import Idealize.ShloMosaic.Lib.Pointwise

/-!
What the selection picks in one column

At the extended reals, the `n`-th selection of a column picks the coefficients of the row `chosen A n`, where `A`
is the column's key per row.
-/

@[expose] public section

set_option maxRecDepth 16384

noncomputable section

namespace Cert.Select

open Idealize.ShloMosaic Idealize.SL.Sem
open Cert.KernelIdeal Cert.KernelIdeal.Gen
open Cert.Choice

/-- A row's number is small, so as a signed word it is itself. -/
theorem toInt_row {r : ℕ} (h : r < 8193) : (BitVec.ofNat 32 r).toInt = r := by
  rw [BitVec.toInt_eq_toNat_cond, BitVec.toNat_ofNat]
  rw [Nat.mod_eq_of_lt (by omega), if_pos (by omega)]

/-- The smallest of a family of words, when one of them is at most every other. -/
theorem fold_minsi {ι : Type} [Fintype ι] (f : ι → BitVec 32) (i₀ : ι)
    (h : ∀ k, (f i₀).toInt ≤ (f k).toInt) : Finset.fold IntOp.minsi 2147483647#32 f Finset.univ = f i₀ := by
  classical
  have hmin : ∀ x y : BitVec 32, (IntOp.minsi x y).toInt = min x.toInt y.toInt := by
    intro x y
    unfold IntOp.minsi
    rw [BitVec.slt_eq_decide]
    by_cases hxy : x.toInt < y.toInt
    · simp [hxy, hxy.le]
    · simp [hxy, not_lt.1 hxy]
  have key : ∀ s : Finset ι, (∀ k ∈ s, (Finset.fold IntOp.minsi 2147483647#32 f s).toInt ≤ (f k).toInt) ∧
      (f i₀).toInt ≤ (Finset.fold IntOp.minsi 2147483647#32 f s).toInt := by
    intro s
    induction s using Finset.induction_on with
    | empty =>
      refine ⟨fun k hk => absurd hk (Finset.notMem_empty k), ?_⟩
      rw [Finset.fold_empty]
      have := BitVec.toInt_lt (x := f i₀)
      have h2 : (2147483647#32 : BitVec 32).toInt = 2147483647 := by decide
      rw [h2]
      norm_num at this
      omega
    | insert a s ha ih =>
      rw [Finset.fold_insert ha, hmin]
      refine ⟨fun k hk => ?_, le_min (h a) ih.2⟩
      rcases Finset.mem_insert.1 hk with rfl | hk
      · exact min_le_left _ _
      · exact (min_le_right _ _).trans (ih.1 k hk)
  exact BitVec.eq_of_toInt_eq (le_antisymm ((key Finset.univ).1 i₀ (Finset.mem_univ _)) (key Finset.univ).2)

/-- The largest of a family, when one of them is at least every other. -/
theorem fold_max {ι : Type} [Fintype ι] (f : ι → EReal) (i₀ : ι) (h : ∀ k, f k ≤ f i₀) :
    Finset.fold max (Ideal.ofBits .f32 4286578688#32) f Finset.univ = f i₀ := by
  refine le_antisymm (Finset.fold_max_le _ |>.2 ⟨?_, fun k _ => h k⟩) ((Finset.le_fold_max _).2 (Or.inr ⟨i₀, Finset.mem_univ _, le_rfl⟩))
  have : Ideal.ofBits .f32 4286578688#32 = ⊥ := by simp [Ideal.ofBits, Ideal.ieee]
  rw [this]; exact bot_le

/-- The word of the marker for a spent row is -1. -/
theorem ofBits_neg_one : Ideal.ofBits .f32 3212836864#32 = (-1 : EReal) := by
  have : Ideal.ofBits .f32 3212836864#32 = ((-(1 : ℝ)) : EReal) := by
    simp [Ideal.ofBits, Ideal.ieee, -EReal.coe_mul, -EReal.coe_neg]; norm_num
  rw [this]; norm_num

/-- A selection by the bit 1 takes its first value. -/
theorem sel_one {α : Type} (x y : α) : Scalar.select 1#1 x y = x := if_pos rfl

/-- A selection by the bit 0 takes its second value. -/
theorem sel_zero {α : Type} (x y : α) : Scalar.select 0#1 x y = y := if_neg (by decide)

/-- A selection by the bit of a proposition is the `if` of the proposition. -/
theorem sel_ite {α : Type} (p : Prop) [Decidable p] (x y : α) :
    Scalar.select (if p then 1#1 else 0#1) x y = if p then x else y := by
  by_cases h : p
  · rw [if_pos h, if_pos h, sel_one]
  · rw [if_neg h, if_neg h, sel_zero]

/-- What one selection leaves in each field, entry by entry. -/
theorem step_fields (s : State Ideal) (x : S2048x128.Idx) :
    s.step.wval x = Scalar.select (s.hit x) (s.lval x) (s.wval x) ∧
    s.step.wre x = Scalar.select (s.hit x) (s.lre x) (s.wre x) ∧
    s.step.wim x = Scalar.select (s.hit x) (s.lim x) (s.wim x) ∧
    s.step.wrow x = Scalar.select (s.hit x) (s.lrow x) (s.wrow x) := by
  simp only [State.step, Idealize.ShloMosaic.select, and_self]

/-- The candidates before the first selection, entry by entry. -/
theorem start_fields (a b ra rb ia ib : FVec Ideal S2048x128 .f32) (x : S2048x128.Idx) :
    (State.start a b ra rb ia ib).wval x = Scalar.select (cmpf .oge a b x) (a x) (b x) ∧
    (State.start a b ra rb ia ib).lval x = Scalar.select (cmpf .oge a b x) (b x) (a x) ∧
    (State.start a b ra rb ia ib).wre x = Scalar.select (cmpf .oge a b x) (ra x) (rb x) ∧
    (State.start a b ra rb ia ib).wim x = Scalar.select (cmpf .oge a b x) (ia x) (ib x) ∧
    (State.start a b ra rb ia ib).lre x = Scalar.select (cmpf .oge a b x) (rb x) (ra x) ∧
    (State.start a b ra rb ia ib).lim x = Scalar.select (cmpf .oge a b x) (ib x) (ia x) := by
  simp only [State.start, Idealize.ShloMosaic.select, and_self]

/-- A pair is hit when its row in play is the least one among the pairs that hold the column's maximum. -/
theorem hit_apply (s : State Ideal) (i : Fin 2048) (j : Fin 128) :
    s.hit (ix2 i j) = IntOp.cmpi .eq (s.wrow (ix2 i j))
      (Finset.fold IntOp.minsi 2147483647#32 (fun x : Fin 2048 =>
        if s.wval (ix2 x j) = Finset.fold max (Ideal.ofBits .f32 4286578688#32) (fun x : Fin 2048 => s.wval (ix2 x j)) Finset.univ
          then s.wrow (ix2 x j) else 8192#32) Finset.univ) := by
  pointwise [State.hit]

/-- A step's real part is the sum of the real parts in play over the pairs hit. -/
theorem re_apply (s : State Ideal) (j : Fin 128) :
    s.re (ix1 j) = ∑ x : Fin 2048, Scalar.select (s.hit (ix2 x j)) (s.wre (ix2 x j)) 0 := by
  pointwise [State.re, picked, masked]

/-- A step's imaginary part is the sum of the imaginary parts in play over the pairs hit. -/
theorem im_apply (s : State Ideal) (j : Fin 128) :
    s.im (ix1 j) = ∑ x : Fin 2048, Scalar.select (s.hit (ix2 x j)) (s.wim (ix2 x j)) 0 := by
  pointwise [State.im, picked, masked]

/-- After a step a pair that was hit waits with the marker -1, and every other pair with what it had. -/
theorem step_lval (s : State Ideal) (i : Fin 2048) (j : Fin 128) : s.step.lval (ix2 i j) =
    Scalar.select (s.hit (ix2 i j)) (Ideal.ofBits .f32 3212836864#32) (s.lval (ix2 i j)) := by
  pointwise [State.step]

/-- The value in play at pair `n` of column `j`. -/
def valN (s : State Ideal) (j : Fin 128) (n : ℕ) : EReal := if h : n < 2048 then s.wval (ix2 ⟨n, h⟩ j) else 0

/-- The value waiting at pair `n` of column `j`. -/
def waitN (s : State Ideal) (j : Fin 128) (n : ℕ) : EReal := if h : n < 2048 then s.lval (ix2 ⟨n, h⟩ j) else 0

/-- The row in play at pair `n` of column `j`. -/
def rowN (s : State Ideal) (j : Fin 128) (n : ℕ) : ℕ := if h : n < 2048 then (s.wrow (ix2 ⟨n, h⟩ j)).toNat else 0

/-- At a pair's number, the value in play is the entry of the array. -/
theorem valN_fin (s : State Ideal) (j : Fin 128) (i : Fin 2048) : valN s j i = s.wval (ix2 i j) := by
  rw [valN, dif_pos i.isLt]
/-- At a pair's number, the waiting value is the entry of the array. -/
theorem waitN_fin (s : State Ideal) (j : Fin 128) (i : Fin 2048) : waitN s j i = s.lval (ix2 i j) := by
  rw [waitN, dif_pos i.isLt]
/-- At a pair's number, the row in play is the entry of the array, as a natural number. -/
theorem rowN_fin (s : State Ideal) (j : Fin 128) (i : Fin 2048) : rowN s j i = (s.wrow (ix2 i j)).toNat := by
  rw [rowN, dif_pos i.isLt]

/-- What is known of column `j` once the rows of `T` are taken. -/
def Known (A R I : ℕ → EReal) (T : Finset ℕ) (s : State Ideal) (j : Fin 128) : Prop :=
  (∀ n < 2048, Holds A T (valN s j) (waitN s j) (rowN s j) n) ∧
    ∀ i : Fin 2048, s.wre (ix2 i j) = R (rowN s j i) ∧ s.wim (ix2 i j) = I (rowN s j i) ∧
      s.lre (ix2 i j) = R (lose A i) ∧ s.lim (ix2 i j) = I (lose A i) ∧ s.lrow (ix2 i j) = BitVec.ofNat 32 (lose A i)

section
variable {A R I : ℕ → EReal} (h0 : A 0 = -1) (hpos : ∀ r, 1 ≤ r → r < 4096 → 0 ≤ A r)
include h0 hpos

/-- Exactly the chosen row's pair is marked. -/
theorem hit_known {n : ℕ} (hn : n < 4095) {s : State Ideal} {j : Fin 128} (hK : Known A R I (taken A n) s j)
    (i : Fin 2048) : s.hit (ix2 i j) = if (i : ℕ) = chosen A n % 2048 then 1#1 else 0#1 := by
  obtain ⟨hr, hmax, hmin⟩ := chosen_top h0 hpos hn hK.1
  have hlt : chosen A n % 2048 < 2048 := Nat.mod_lt _ (by norm_num)
  let i₀ : Fin 2048 := ⟨chosen A n % 2048, hlt⟩
  have rowlt : ∀ k : Fin 2048, rowN s j k % 2048 = k ∧ rowN s j k < 4096 := fun k => by
    rw [(hK.1 k k.isLt).2.1]; exact cur_mod A _ k.isLt
  have hw : ∀ k : Fin 2048, s.wrow (ix2 k j) = BitVec.ofNat 32 (rowN s j k) := fun k => by
    rw [rowN_fin]; simp
  have hM : Finset.fold max (Ideal.ofBits .f32 4286578688#32) (fun x : Fin 2048 => s.wval (ix2 x j)) Finset.univ
      = s.wval (ix2 i₀ j) := by
    refine fold_max (fun x : Fin 2048 => s.wval (ix2 x j)) i₀ fun k => ?_
    have := hmax k k.isLt
    rw [valN_fin] at this
    have e := valN_fin s j i₀
    rw [← e]; exact this
  rw [hit_apply, hM]
  have hm := fold_minsi (fun x : Fin 2048 => if s.wval (ix2 x j) = s.wval (ix2 i₀ j) then s.wrow (ix2 x j) else 8192#32) i₀
    (fun k => by
      have hr0 : rowN s j i₀ = chosen A n := hr
      simp only [if_true]
      rw [hw i₀, hr0, toInt_row (by have := (rowlt i₀).2; rw [hr0] at this; omega)]
      by_cases hk : s.wval (ix2 k j) = s.wval (ix2 i₀ j)
      · rw [if_pos hk, hw k, toInt_row (by have := (rowlt k).2; omega)]
        have := hmin k k.isLt (by
          have e := valN_fin s j i₀
          rw [valN_fin]; exact hk.trans e.symm)
        exact_mod_cast this
      · rw [if_neg hk]
        have : (8192#32 : BitVec 32).toInt = 8192 := by decide
        rw [this]
        have := (rowlt i₀).2
        rw [hr0] at this
        omega)
  rw [hm]
  simp only [if_true]
  unfold IntOp.cmpi
  by_cases e : (i : ℕ) = chosen A n % 2048
  · have : i = i₀ := Fin.ext e
    rw [if_pos e, this]; simp
  · rw [if_neg e]
    have hne : s.wrow (ix2 i j) ≠ s.wrow (ix2 i₀ j) := by
      intro hh
      have h1 := (rowlt i).1
      have h2 := (rowlt i₀).1
      rw [rowN_fin, hh, ← rowN_fin] at h1
      exact e (h1.symm.trans h2)
    rw [beq_eq_false_iff_ne.2 hne]; rfl

/-- The pair of the row chosen next has that row in play. -/
theorem rowN_chosen {n : ℕ} (hn : n < 4095) {s : State Ideal} {j : Fin 128} (hK : Known A R I (taken A n) s j) :
    rowN s j (chosen A n % 2048) = chosen A n := (chosen_top h0 hpos hn hK.1).1

/-- The selection picks the chosen row's real coefficient. -/
theorem re_known {n : ℕ} (hn : n < 4095) {s : State Ideal} {j : Fin 128} (hK : Known A R I (taken A n) s j) :
    s.re (ix1 j) = R (chosen A n) := by
  have hlt : chosen A n % 2048 < 2048 := Nat.mod_lt _ (by norm_num)
  rw [re_apply, Finset.sum_eq_single (⟨chosen A n % 2048, hlt⟩ : Fin 2048)]
  · rw [hit_known h0 hpos hn hK, if_pos rfl, (hK.2 _).1]
    rw [sel_one, rowN_chosen h0 hpos hn hK]
  · intro i _ hi
    rw [hit_known h0 hpos hn hK, if_neg (fun h => hi (Fin.ext h))]
    rw [sel_zero]
  · intro h; exact absurd (Finset.mem_univ _) h

/-- The selection picks the chosen row's imaginary coefficient. -/
theorem im_known {n : ℕ} (hn : n < 4095) {s : State Ideal} {j : Fin 128} (hK : Known A R I (taken A n) s j) :
    s.im (ix1 j) = I (chosen A n) := by
  have hlt : chosen A n % 2048 < 2048 := Nat.mod_lt _ (by norm_num)
  rw [im_apply, Finset.sum_eq_single (⟨chosen A n % 2048, hlt⟩ : Fin 2048)]
  · rw [hit_known h0 hpos hn hK, if_pos rfl, (hK.2 _).2.1]
    rw [sel_one, rowN_chosen h0 hpos hn hK]
  · intro i _ hi
    rw [hit_known h0 hpos hn hK, if_neg (fun h => hi (Fin.ext h))]
    rw [sel_zero]
  · intro h; exact absurd (Finset.mem_univ _) h

/-- One selection keeps what is known. -/
theorem known_step {n : ℕ} (hn : n < 4095) {s : State Ideal} {j : Fin 128} (hK : Known A R I (taken A n) s j) :
    Known A R I (taken A (n + 1)) s.step j := by
  have hh := hit_known h0 hpos hn hK
  have hlose : ∀ i : ℕ, i < 2048 → lose A i < 4096 := fun i hi => by
    rcases win_or A i with ⟨_, b⟩ | ⟨_, b⟩ <;> rw [b] <;> omega
  have e1 : ∀ i : Fin 2048, s.step.wval (ix2 i j) = if (i : ℕ) = chosen A n % 2048 then s.lval (ix2 i j) else s.wval (ix2 i j) := fun i => by
    rw [(step_fields s (ix2 i j)).1, hh i, sel_ite]
  have e2 : ∀ i : Fin 2048, s.step.wre (ix2 i j) = if (i : ℕ) = chosen A n % 2048 then s.lre (ix2 i j) else s.wre (ix2 i j) := fun i => by
    rw [(step_fields s (ix2 i j)).2.1, hh i, sel_ite]
  have e3 : ∀ i : Fin 2048, s.step.wim (ix2 i j) = if (i : ℕ) = chosen A n % 2048 then s.lim (ix2 i j) else s.wim (ix2 i j) := fun i => by
    rw [(step_fields s (ix2 i j)).2.2.1, hh i, sel_ite]
  have e4 : ∀ i : Fin 2048, s.step.wrow (ix2 i j) = if (i : ℕ) = chosen A n % 2048 then s.lrow (ix2 i j) else s.wrow (ix2 i j) := fun i => by
    rw [(step_fields s (ix2 i j)).2.2.2, hh i, sel_ite]
  have e5 : ∀ i : Fin 2048, s.step.lval (ix2 i j) = if (i : ℕ) = chosen A n % 2048 then -1 else s.lval (ix2 i j) := fun i => by
    rw [step_lval, hh i, ofBits_neg_one, sel_ite]
  have er : ∀ i : Fin 2048, rowN s.step j i = if (i : ℕ) = chosen A n % 2048 then lose A i else rowN s j i := fun i => by
    have hl : (s.lrow (ix2 i j)).toNat = lose A i := by
      rw [(hK.2 i).2.2.2.2, BitVec.toNat_ofNat]
      exact Nat.mod_eq_of_lt (by have := hlose i i.isLt; omega)
    rw [rowN_fin, rowN_fin, e4, apply_ite BitVec.toNat, hl]
  refine ⟨holds_step h0 hpos hn hK.1 (fun i hi => ?_) (fun i hi => er ⟨i, hi⟩) (fun i hi => ?_), fun i => ?_⟩
  · have := e1 ⟨i, hi⟩
    rw [← valN_fin, ← waitN_fin, ← valN_fin] at this
    exact this
  · have := e5 ⟨i, hi⟩
    rw [← waitN_fin, ← waitN_fin] at this
    exact this
  · obtain ⟨a, b, c, d, e⟩ := hK.2 i
    refine ⟨?_, ?_, c, d, e⟩
    · rw [e2, er, a, c]; split <;> rfl
    · rw [e3, er, b, d]; split <;> rfl

/-- What is known after `n` selections. -/
theorem known_after {s : State Ideal} {j : Fin 128} (hK : Known A R I ∅ s j) (n : ℕ) (hn : n ≤ 4095) :
    Known A R I (taken A n) (s.after n) j := by
  induction n with
  | zero => exact hK
  | succ n ih => exact known_step h0 hpos (by omega) (ih (by omega))

end

/-- The candidates before the first selection, from the halves of three planes with columns `A`, `R`, `I`. -/
theorem known_start {A R I : ℕ → EReal} {a b ra rb ia ib : FVec Ideal S2048x128 .f32} {j : Fin 128}
    (ha : ∀ i : Fin 2048, a (ix2 i j) = A i) (hb : ∀ i : Fin 2048, b (ix2 i j) = A (i + 2048))
    (hra : ∀ i : Fin 2048, ra (ix2 i j) = R i) (hrb : ∀ i : Fin 2048, rb (ix2 i j) = R (i + 2048))
    (hia : ∀ i : Fin 2048, ia (ix2 i j) = I i) (hib : ∀ i : Fin 2048, ib (ix2 i j) = I (i + 2048)) :
    Known A R I ∅ (State.start a b ra rb ia ib) j := by
  have hge : ∀ i : Fin 2048, cmpf .oge a b (ix2 i j) = BitVec.ofBool (decide (A (i + 2048) ≤ A i)) := fun i => by
    rw [show cmpf .oge a b (ix2 i j) = Ideal.cmp .oge (a (ix2 i j)) (b (ix2 i j)) from rfl, ha, hb]; rfl
  have sel : ∀ {α : Type} (i : Fin 2048) (x y : α), Scalar.select (cmpf .oge a b (ix2 i j)) x y
      = if A (i + 2048) ≤ A i then x else y := fun i x y => by
    rw [hge]; by_cases h : A (i + 2048) ≤ A i <;> simp [Scalar.select, h]
  have hrow : ∀ i : Fin 2048, (State.start a b ra rb ia ib).wrow (ix2 i j) = BitVec.ofNat 32 (win A i) := fun i => by
    have : (State.start a b ra rb ia ib).wrow (ix2 i j)
        = IntOp.addi (BitVec.ofNat 32 i) (if b (ix2 i j) ≤ a (ix2 i j) then 0#32 else 2048#32) := by
      pointwise [State.start]
    rw [this, ha, hb, win]
    split <;> simp [IntOp.addi, BitVec.ofNat_add]
  have hlrow : ∀ i : Fin 2048, (State.start a b ra rb ia ib).lrow (ix2 i j) = BitVec.ofNat 32 (lose A i) := fun i => by
    have : (State.start a b ra rb ia ib).lrow (ix2 i j)
        = IntOp.addi (BitVec.ofNat 32 i) (if b (ix2 i j) ≤ a (ix2 i j) then 2048#32 else 0#32) := by
      pointwise [State.start]
    rw [this, ha, hb, lose]
    split <;> simp [IntOp.addi, BitVec.ofNat_add]
  have hrowN : ∀ i : Fin 2048, rowN (State.start a b ra rb ia ib) j i = win A i := fun i => by
    rw [rowN_fin, hrow, BitVec.toNat_ofNat, Nat.mod_eq_of_lt]
    rcases win_or A i with ⟨b, _⟩ | ⟨b, _⟩ <;> rw [b] <;> omega
  refine ⟨fun n hn => ⟨fun h => absurd h (Finset.notMem_empty _), ?_, ?_, ?_⟩, fun i => ⟨?_, ?_, ?_, ?_, hlrow i⟩⟩
  · rw [cur, if_neg (Finset.notMem_empty _)]; exact hrowN ⟨n, hn⟩
  · rw [cur, if_neg (Finset.notMem_empty _), if_neg (Finset.notMem_empty _)]
    have := valN_fin (State.start a b ra rb ia ib) j ⟨n, hn⟩
    rw [show ((⟨n, hn⟩ : Fin 2048) : ℕ) = n from rfl] at this
    rw [this]
    rw [(start_fields a b ra rb ia ib (ix2 ⟨n, hn⟩ j)).1, sel, ha, hb, win]; split <;> rfl
  · rw [if_neg (Finset.notMem_empty _)]
    have := waitN_fin (State.start a b ra rb ia ib) j ⟨n, hn⟩
    rw [show ((⟨n, hn⟩ : Fin 2048) : ℕ) = n from rfl] at this
    rw [this]
    rw [(start_fields a b ra rb ia ib (ix2 ⟨n, hn⟩ j)).2.1, sel, ha, hb, lose]; split <;> rfl
  · rw [(start_fields a b ra rb ia ib (ix2 i j)).2.2.1, sel, hra, hrb, hrowN, win]; split <;> rfl
  · rw [(start_fields a b ra rb ia ib (ix2 i j)).2.2.2.1, sel, hia, hib, hrowN, win]; split <;> rfl
  · rw [(start_fields a b ra rb ia ib (ix2 i j)).2.2.2.2.1, sel, hra, hrb, lose]; split <;> rfl
  · rw [(start_fields a b ra rb ia ib (ix2 i j)).2.2.2.2.2, sel, hia, hib, lose]; split <;> rfl

end Cert.Select

end
-- ==== Proof.Fourier.lean ====
module

public import Mathlib.Analysis.SpecialFunctions.Trigonometric.Basic
public import Mathlib.Data.EReal.Operations
public import Mathlib.Logic.Equiv.Fin.Basic
public import Mathlib.Algebra.BigOperators.Fin

/-!
The two-stage Fourier sum

With time `t = t₂·64 + t₁` and frequency `f = f₁·128 + f₂`, a sum over 8192 times against `cos (2π f t / 8192)` and
`sin (2π f t / 8192)` is a sum over `t₂`, a rotation, and a sum over `t₁`.
-/

@[expose] public section

noncomputable section

namespace Cert.Fourier

/-- The angle `2π·a·b/n`. -/
def angle (a b n : ℕ) : ℝ := 2 * Real.pi * ((a : ℝ) * (b : ℝ)) / (n : ℝ)

/-- The angle of a frequency and a time is the sum of three smaller ones, up to whole turns. -/
theorem angle_split (f₁ f₂ t₁ t₂ : ℕ) :
    angle (f₁ * 128 + f₂) (t₂ * 64 + t₁) 8192
      = angle f₁ t₁ 64 + (angle f₂ t₁ 8192 + angle f₂ t₂ 128) + ((f₁ * t₂ : ℕ) : ℝ) * (2 * Real.pi) := by
  unfold angle
  push_cast
  ring

/-- The cosine of a whole frequency at a whole time is that of the sum of the two stages' angles and the rotation's.
-/
theorem cos_split (f₁ f₂ t₁ t₂ : ℕ) :
    Real.cos (angle (f₁ * 128 + f₂) (t₂ * 64 + t₁) 8192)
      = Real.cos (angle f₁ t₁ 64 + (angle f₂ t₁ 8192 + angle f₂ t₂ 128)) := by
  rw [angle_split, Real.cos_add_nat_mul_two_pi]

/-- The sine of a whole frequency at a whole time is that of the sum of the two stages' angles and the rotation's. -/
theorem sin_split (f₁ f₂ t₁ t₂ : ℕ) :
    Real.sin (angle (f₁ * 128 + f₂) (t₂ * 64 + t₁) 8192)
      = Real.sin (angle f₁ t₁ 64 + (angle f₂ t₁ 8192 + angle f₂ t₂ 128)) := by
  rw [angle_split, Real.sin_add_nat_mul_two_pi]

/-- The first stage. -/
def y (w : ℝ → ℝ) (x : ℕ → ℝ) (f₂ t₁ : ℕ) : ℝ := ∑ t₂ : Fin 128, w (angle f₂ t₂ 128) * x (t₂ * 64 + t₁)

/-- The rotated first stage, real part. -/
def zr (x : ℕ → ℝ) (f₂ t₁ : ℕ) : ℝ :=
  y Real.cos x f₂ t₁ * Real.cos (angle f₂ t₁ 8192) - y (fun a => -Real.sin a) x f₂ t₁ * -Real.sin (angle f₂ t₁ 8192)

/-- The rotated first stage, imaginary part. -/
def zi (x : ℕ → ℝ) (f₂ t₁ : ℕ) : ℝ :=
  y Real.cos x f₂ t₁ * -Real.sin (angle f₂ t₁ 8192) + y (fun a => -Real.sin a) x f₂ t₁ * Real.cos (angle f₂ t₁ 8192)

/-- The cosine sum at frequency `f`. -/
def re (x : ℕ → ℝ) (f : ℕ) : ℝ := ∑ t : Fin 8192, x t * Real.cos (angle f t 8192)

/-- Minus the sine sum at frequency `f`. -/
def im (x : ℕ → ℝ) (f : ℕ) : ℝ := ∑ t : Fin 8192, x t * -Real.sin (angle f t 8192)

/-- A sum over 8192 times, split. -/
theorem sum_split (g : ℕ → ℝ) : ∑ t : Fin 8192, g t = ∑ t₁ : Fin 64, ∑ t₂ : Fin 128, g (t₂ * 64 + t₁) := by
  rw [Finset.sum_comm, ← Fintype.sum_prod_type', ← (finProdFinEquiv (m := 128) (n := 64)).sum_comp]
  refine Finset.sum_congr rfl fun p _ => ?_
  congr 1
  simp only [finProdFinEquiv_apply_val]
  ring

/-- The second stage, real part, is the cosine sum. -/
theorem stage_re (x : ℕ → ℝ) (f₁ f₂ : ℕ) :
    ∑ t₁ : Fin 64, Real.cos (angle f₁ t₁ 64) * zr x f₂ t₁ - ∑ t₁ : Fin 64, -Real.sin (angle f₁ t₁ 64) * zi x f₂ t₁
      = re x (f₁ * 128 + f₂) := by
  rw [re, sum_split (fun t => x t * Real.cos (angle (f₁ * 128 + f₂) t 8192)), ← Finset.sum_sub_distrib]
  refine Finset.sum_congr rfl fun t₁ _ => ?_
  simp only [cos_split, zr, zi, y, Finset.sum_mul, Finset.mul_sum, ← Finset.sum_sub_distrib, ← Finset.sum_add_distrib]
  refine Finset.sum_congr rfl fun t₂ _ => ?_
  simp only [Real.cos_add, Real.sin_add]
  ring

/-- The second stage, imaginary part, is minus the sine sum. -/
theorem stage_im (x : ℕ → ℝ) (f₁ f₂ : ℕ) :
    ∑ t₁ : Fin 64, Real.cos (angle f₁ t₁ 64) * zi x f₂ t₁ + ∑ t₁ : Fin 64, -Real.sin (angle f₁ t₁ 64) * zr x f₂ t₁
      = im x (f₁ * 128 + f₂) := by
  rw [im, sum_split (fun t => x t * -Real.sin (angle (f₁ * 128 + f₂) t 8192)), ← Finset.sum_add_distrib]
  refine Finset.sum_congr rfl fun t₁ _ => ?_
  simp only [sin_split, zr, zi, y, Finset.sum_mul, Finset.mul_sum, ← Finset.sum_sub_distrib, ← Finset.sum_add_distrib]
  refine Finset.sum_congr rfl fun t₂ _ => ?_
  simp only [Real.cos_add, Real.sin_add]
  ring

/-- A finite sum of reals, taken in the extended reals. -/
theorem coe_sum {ι : Type*} (s : Finset ι) (g : ι → ℝ) : ((∑ i ∈ s, g i : ℝ) : EReal) = ∑ i ∈ s, (g i : EReal) := by
  classical
  induction s using Finset.induction_on with
  | empty => simp
  | insert a s h ih => rw [Finset.sum_insert h, Finset.sum_insert h, EReal.coe_add, ih]

end Cert.Fourier

end
-- ==== Proof.Spectrum.lean ====
module

public import proofs.«01_k».proof.Proof.Piece
public import proofs.«01_k».proof.Proof.Column
public import proofs.«01_k».proof.Proof.Fourier

/-!
The kernel's transform, at the extended reals

Lane `j` of the kernel's two planes holds, at row `f`, the cosine sum and minus the sine sum at frequency `f` of
the lane's normalised entries.
-/

@[expose] public section

set_option maxRecDepth 16384

noncomputable section

namespace Cert.Select

open Idealize.ShloMosaic Idealize.SL.Sem
open Cert.KernelIdeal Cert.KernelIdeal.Gen
open Cert.Fourier (angle)

section
variable (x0 : Vec Ideal S1x8192x128 .f32) (x1 : Vec Ideal S128x128 .f32)
variable (v31 v32 : FVec Ideal S128x64x128 .f32) (v35 : FVec Ideal S128x64x1 .f32) (v36 : Vec Ideal S128x64 .f32)
  (v53 v55 : Vec Ideal S32x64 .f32)

/-- The place of lane `c` of group `b`. -/
theorem lane_lt (b : Fin 64) (c : Fin 128) : (b : ℕ) * 128 + c < 8192 := by omega

/-- The first stage's real part: a sum of 128 products. -/
theorem pay8_apply (a : Fin 128) (b : Fin 64) (c : Fin 128) : k0_pay8 x0 x1 (ix3 a b c)
    = ∑ x : Fin 128, x1 (ix2 a x) * k0_pay7 x0 (ix2 x ⟨b * 128 + c, by omega⟩) := by
  pointwise [k0_pay8]

/-- The first stage's imaginary part: a sum of 128 products. -/
theorem pay9_apply (a : Fin 128) (b : Fin 64) (c : Fin 128) : k0_pay9 x0 x1 (ix3 a b c)
    = ∑ x : Fin 128, x1 (ix2 a x) * k0_pay7 x0 (ix2 x ⟨b * 128 + c, by omega⟩) := by
  pointwise [k0_pay9]

/-- The rotation's table, with a lane axis added. -/
theorem pay10_apply (a : Fin 128) (b : Fin 64) : k0_pay10 v36 (ix3 a b 0) = v36 (ix2 a b) := by
  pointwise [k0_pay10]

/-- The rotated real part, with the frequency axis moved among the lanes. -/
theorem pay12_apply (a : Fin 64) (q : Fin 16384) : k0_pay12 v31 v32 v35 v36 (ix2 a q)
    = v31 (ix3 ⟨q / 128, by omega⟩ a ⟨q % 128, by omega⟩) * v35 (ix3 ⟨q / 128, by omega⟩ a 0)
      - v32 (ix3 ⟨q / 128, by omega⟩ a ⟨q % 128, by omega⟩) * v36 (ix2 ⟨q / 128, by omega⟩ a) := by
  pointwise [k0_pay12, k0_pay11]

/-- The rotated imaginary part, with the frequency axis moved among the lanes. -/
theorem pay13_apply (a : Fin 64) (q : Fin 16384) : k0_pay13 v31 v32 v35 v36 (ix2 a q)
    = v31 (ix3 ⟨q / 128, by omega⟩ a ⟨q % 128, by omega⟩) * v36 (ix2 ⟨q / 128, by omega⟩ a)
      + v32 (ix3 ⟨q / 128, by omega⟩ a ⟨q % 128, by omega⟩) * v35 (ix3 ⟨q / 128, by omega⟩ a 0) := by
  pointwise [k0_pay13, k0_pay11]

/-- The second stage's real part, one row for each frequency. -/
theorem pay16_apply (f : Fin 4096) (j : Fin 128) : k0_pay16 v31 v32 v35 v36 v53 v55 (ix2 f j)
    = ∑ x : Fin 64, v53 (ix2 ⟨f / 128, by omega⟩ x) * k0_pay12 v31 v32 v35 v36 (ix2 x ⟨f % 128 * 128 + j, by omega⟩)
      - ∑ x : Fin 64, v55 (ix2 ⟨f / 128, by omega⟩ x) * k0_pay13 v31 v32 v35 v36 (ix2 x ⟨f % 128 * 128 + j, by omega⟩) := by
  pointwise [k0_pay16, k0_pay14, k0_pay15]

/-- The second stage's imaginary part, one row for each frequency. -/
theorem pay17_apply (f : Fin 4096) (j : Fin 128) : k0_pay17 v31 v32 v35 v36 v53 v55 (ix2 f j)
    = ∑ x : Fin 64, v53 (ix2 ⟨f / 128, by omega⟩ x) * k0_pay13 v31 v32 v35 v36 (ix2 x ⟨f % 128 * 128 + j, by omega⟩)
      + ∑ x : Fin 64, v55 (ix2 ⟨f / 128, by omega⟩ x) * k0_pay12 v31 v32 v35 v36 (ix2 x ⟨f % 128 * 128 + j, by omega⟩) := by
  pointwise [k0_pay17, k0_pay14, k0_pay15]

/-- The squared amplitude of each frequency, with -1 at frequency 0. -/
theorem pay18_apply (f : Fin 4096) (j : Fin 128) : k0_pay18 v31 v32 v35 v36 v53 v55 (ix2 f j)
    = Scalar.select (IntOp.cmpi .eq (BitVec.ofNat 32 f) 0#32) (Ideal.ofBits .f32 3212836864#32)
      (k0_pay16 v31 v32 v35 v36 v53 v55 (ix2 f j) * k0_pay16 v31 v32 v35 v36 v53 v55 (ix2 f j)
        + k0_pay17 v31 v32 v35 v36 v53 v55 (ix2 f j) * k0_pay17 v31 v32 v35 v36 v53 v55 (ix2 f j)) := by
  pointwise [k0_pay18]

/-- The lower half of the squared amplitudes. -/
theorem pay19_apply (i : Fin 2048) (j : Fin 128) : k0_pay19 v31 v32 v35 v36 v53 v55 (ix2 i j)
    = k0_pay18 v31 v32 v35 v36 v53 v55 (ix2 ⟨i, by omega⟩ j) := by
  pointwise [k0_pay19]

/-- The upper half of the squared amplitudes. -/
theorem pay20_apply (i : Fin 2048) (j : Fin 128) : k0_pay20 v31 v32 v35 v36 v53 v55 (ix2 i j)
    = k0_pay18 v31 v32 v35 v36 v53 v55 (ix2 ⟨2048 + i, by omega⟩ j) := by
  pointwise [k0_pay20]

/-- The lower half of the real parts. -/
theorem pay21_apply (i : Fin 2048) (j : Fin 128) : k0_pay21 v31 v32 v35 v36 v53 v55 (ix2 i j)
    = k0_pay16 v31 v32 v35 v36 v53 v55 (ix2 ⟨i, by omega⟩ j) := by
  pointwise [k0_pay21]

/-- The upper half of the real parts. -/
theorem pay22_apply (i : Fin 2048) (j : Fin 128) : k0_pay22 v31 v32 v35 v36 v53 v55 (ix2 i j)
    = k0_pay16 v31 v32 v35 v36 v53 v55 (ix2 ⟨2048 + i, by omega⟩ j) := by
  pointwise [k0_pay22]

/-- The lower half of the imaginary parts. -/
theorem pay23_apply (i : Fin 2048) (j : Fin 128) : k0_pay23 v31 v32 v35 v36 v53 v55 (ix2 i j)
    = k0_pay17 v31 v32 v35 v36 v53 v55 (ix2 ⟨i, by omega⟩ j) := by
  pointwise [k0_pay23]

/-- The upper half of the imaginary parts. -/
theorem pay24_apply (i : Fin 2048) (j : Fin 128) : k0_pay24 v31 v32 v35 v36 v53 v55 (ix2 i j)
    = k0_pay17 v31 v32 v35 v36 v53 v55 (ix2 ⟨2048 + i, by omega⟩ j) := by
  pointwise [k0_pay24]

end

/-- The key of row `r`: the squared amplitude, and `-1` for row 0. -/
def key (xs : ℕ → ℝ) (r : ℕ) : EReal :=
  if r = 0 then -1 else ((Fourier.re xs r * Fourier.re xs r + Fourier.im xs r * Fourier.im xs r : ℝ) : EReal)

section
variable {x0 : Vec Ideal S1x8192x128 .f32} {x1 x2 : Vec Ideal S128x128 .f32} {x3 x4 : Vec Ideal S128x64 .f32}
  {x5 x6 : Vec Ideal S32x64 .f32} {j : Fin 128} {xs : ℕ → ℝ}
  (h1 : ∀ a b : Fin 128, x1 (ix2 a b) = ((Real.cos (angle a b 128) : ℝ) : EReal))
  (h2 : ∀ a b : Fin 128, x2 (ix2 a b) = ((-Real.sin (angle a b 128) : ℝ) : EReal))
  (h3 : ∀ (a : Fin 128) (b : Fin 64), x3 (ix2 a b) = ((Real.cos (angle a b 8192) : ℝ) : EReal))
  (h4 : ∀ (a : Fin 128) (b : Fin 64), x4 (ix2 a b) = ((-Real.sin (angle a b 8192) : ℝ) : EReal))
  (h5 : ∀ (a : Fin 32) (b : Fin 64), x5 (ix2 a b) = ((Real.cos (angle a b 64) : ℝ) : EReal))
  (h6 : ∀ (a : Fin 32) (b : Fin 64), x6 (ix2 a b) = ((-Real.sin (angle a b 64) : ℝ) : EReal))
  (hx : ∀ (a : Fin 128) (b : Fin 64), k0_pay7 x0 (ix2 a ⟨b * 128 + j, lane_lt b j⟩) = ((xs (a * 64 + b) : ℝ) : EReal))
include h1 h2 h3 h4 hx

/-- With the tables' values, the rotated real part is that of the two-stage sum. -/
theorem pay12_val (t₁ : Fin 64) (f₂ : Fin 128) :
    k0_pay12 (k0_pay8 x0 x1) (k0_pay9 x0 x2) (k0_pay10 x3) x4 (ix2 t₁ ⟨f₂ * 128 + j, by omega⟩)
      = ((Fourier.zr xs f₂ t₁ : ℝ) : EReal) := by
  have e1 : (f₂ * 128 + j : ℕ) / 128 = f₂ := by omega
  have e2 : (f₂ * 128 + j : ℕ) % 128 = j := by omega
  rw [pay12_apply]
  simp only [e1, e2, Fin.eta]
  rw [pay8_apply, pay9_apply, pay10_apply, h3, h4]
  simp only [h1, h2, hx, ← EReal.coe_mul, ← Fourier.coe_sum, ← EReal.coe_sub]
  rfl

/-- With the tables' values, the rotated imaginary part is that of the two-stage sum. -/
theorem pay13_val (t₁ : Fin 64) (f₂ : Fin 128) :
    k0_pay13 (k0_pay8 x0 x1) (k0_pay9 x0 x2) (k0_pay10 x3) x4 (ix2 t₁ ⟨f₂ * 128 + j, by omega⟩)
      = ((Fourier.zi xs f₂ t₁ : ℝ) : EReal) := by
  have e1 : (f₂ * 128 + j : ℕ) / 128 = f₂ := by omega
  have e2 : (f₂ * 128 + j : ℕ) % 128 = j := by omega
  rw [pay13_apply]
  simp only [e1, e2, Fin.eta]
  rw [pay8_apply, pay9_apply, pay10_apply, h3, h4]
  simp only [h1, h2, hx, ← EReal.coe_mul, ← Fourier.coe_sum, ← EReal.coe_add]
  rfl

include h5 h6

/-- The real plane is the cosine sum. -/
theorem pay16_val (f : Fin 4096) :
    k0_pay16 (k0_pay8 x0 x1) (k0_pay9 x0 x2) (k0_pay10 x3) x4 x5 x6 (ix2 f j) = ((Fourier.re xs f : ℝ) : EReal) := by
  have e := Fourier.stage_re xs (f / 128) (f % 128)
  rw [show (f / 128 * 128 + f % 128 : ℕ) = f by omega] at e
  rw [← e, pay16_apply]
  have z := pay12_val h1 h2 h3 h4 hx
  have w := pay13_val h1 h2 h3 h4 hx
  simp only [h5, h6]
  simp only [fun t₁ => z t₁ ⟨f % 128, by omega⟩, fun t₁ => w t₁ ⟨f % 128, by omega⟩, ← EReal.coe_mul, ← Fourier.coe_sum, ← EReal.coe_sub]

/-- The imaginary plane is minus the sine sum. -/
theorem pay17_val (f : Fin 4096) :
    k0_pay17 (k0_pay8 x0 x1) (k0_pay9 x0 x2) (k0_pay10 x3) x4 x5 x6 (ix2 f j) = ((Fourier.im xs f : ℝ) : EReal) := by
  have e := Fourier.stage_im xs (f / 128) (f % 128)
  rw [show (f / 128 * 128 + f % 128 : ℕ) = f by omega] at e
  rw [← e, pay17_apply]
  have z := pay12_val h1 h2 h3 h4 hx
  have w := pay13_val h1 h2 h3 h4 hx
  simp only [h5, h6]
  simp only [fun t₁ => z t₁ ⟨f % 128, by omega⟩, fun t₁ => w t₁ ⟨f % 128, by omega⟩, ← EReal.coe_mul, ← Fourier.coe_sum, ← EReal.coe_add]

/-- The masked squared amplitudes are the keys. -/
theorem pay18_val (f : Fin 4096) :
    k0_pay18 (k0_pay8 x0 x1) (k0_pay9 x0 x2) (k0_pay10 x3) x4 x5 x6 (ix2 f j) = key xs f := by
  rw [pay18_apply, pay16_val h1 h2 h3 h4 h5 h6 hx, pay17_val h1 h2 h3 h4 h5 h6 hx, ofBits_neg_one]
  simp only [← EReal.coe_mul, ← EReal.coe_add]
  have : IntOp.cmpi .eq (BitVec.ofNat 32 f) 0#32 = if (f : ℕ) = 0 then 1#1 else 0#1 := by
    unfold IntOp.cmpi
    by_cases h : (f : ℕ) = 0
    · rw [if_pos h, h]; rfl
    · rw [if_neg h]
      have hne : BitVec.ofNat 32 f ≠ 0#32 := by
        intro hh
        have := congrArg BitVec.toNat hh
        rw [BitVec.toNat_ofNat, Nat.mod_eq_of_lt (by omega)] at this
        exact h this
      rw [beq_eq_false_iff_ne.2 hne]; rfl
  rw [this, sel_ite, key]

/-- What the kernel's selection knows of lane `j` at the start. -/
theorem known_startOf : Known (key xs) (fun r => ((Fourier.re xs r : ℝ) : EReal)) (fun r => ((Fourier.im xs r : ℝ) : EReal)) ∅
    (startOf x0 x1 x2 x3 x4 x5 x6) j := by
  have a := pay18_val h1 h2 h3 h4 h5 h6 hx
  have b := pay16_val h1 h2 h3 h4 h5 h6 hx
  have d := pay17_val h1 h2 h3 h4 h5 h6 hx
  unfold startOf
  refine known_start (fun i => ?_) (fun i => ?_) (fun i => ?_) (fun i => ?_) (fun i => ?_) (fun i => ?_)
  · rw [pay19_apply, a]
  · rw [pay20_apply, a]; exact congrArg (key xs) (Nat.add_comm 2048 i)
  · rw [pay21_apply, b]
  · rw [pay22_apply, b]; exact congrArg (fun r => ((Fourier.re xs r : ℝ) : EReal)) (Nat.add_comm 2048 i)
  · rw [pay23_apply, d]
  · rw [pay24_apply, d]; exact congrArg (fun r => ((Fourier.im xs r : ℝ) : EReal)) (Nat.add_comm 2048 i)

end

/-- Row 0 has the key -1. -/
theorem key_zero (xs : ℕ → ℝ) : key xs 0 = -1 := if_pos rfl

/-- Every other row's key is not negative. -/
theorem key_pos (xs : ℕ → ℝ) (r : ℕ) (h1 : 1 ≤ r) (_ : r < 4096) : 0 ≤ key xs r := by
  rw [key, if_neg (by omega)]
  exact_mod_cast add_nonneg (mul_self_nonneg _) (mul_self_nonneg _)

end Cert.Select

end
-- ==== Proof.Scalars.lean ====
module

public import proofs.«01_k».proof.Proof.Column
public import proofs.«01_k».proof.Proof.Fourier

/-!
Constants and angles, at the extended reals
-/

@[expose] public section

noncomputable section

namespace Cert.Scalars

open Idealize.ShloMosaic
open Cert.Fourier (angle)

/-- The word of 2. -/
theorem ofBits_two : Ideal.ofBits .f32 1073741824#32 = ((2 : ℝ) : EReal) := by
  simp [Ideal.ofBits, Ideal.ieee, -EReal.coe_mul]; norm_num

/-- The word of -2. -/
theorem ofBits_neg_two : Ideal.ofBits .f32 3221225472#32 = ((-2 : ℝ) : EReal) := by
  simp [Ideal.ofBits, Ideal.ieee, -EReal.coe_mul, -EReal.coe_neg]; norm_num

/-- The word of -1. -/
theorem ofBits_neg_one' : Ideal.ofBits .f32 3212836864#32 = ((-1 : ℝ) : EReal) := by
  simp [Ideal.ofBits, Ideal.ieee, -EReal.coe_mul, -EReal.coe_neg]; norm_num

/-- The word of 8192. -/
theorem ofBits_8192 : Ideal.ofBits .f32 1174405120#32 = (((8192 : ℕ) : ℝ) : EReal) := by
  simp [Ideal.ofBits, Ideal.ieee, -EReal.coe_mul]; norm_num

/-- The word of 128. -/
theorem ofBits_128 : Ideal.ofBits .f32 1124073472#32 = (((128 : ℕ) : ℝ) : EReal) := by
  simp [Ideal.ofBits, Ideal.ieee, -EReal.coe_mul]; norm_num

/-- The word of 64. -/
theorem ofBits_64 : Ideal.ofBits .f32 1115684864#32 = (((64 : ℕ) : ℝ) : EReal) := by
  simp [Ideal.ofBits, Ideal.ieee, -EReal.coe_mul]; norm_num

/-- The word of 8191. -/
theorem ofBits_8191 : Ideal.ofBits .f32 1174403072#32 = ((8191 : ℝ) : EReal) := by
  simp [Ideal.ofBits, Ideal.ieee, -EReal.coe_mul]; norm_num

/-- The cosine of a real, at the extended reals, is the real cosine. -/
theorem cos_coe (r : ℝ) : Ideal.cos (r : EReal) = ((Real.cos r : ℝ) : EReal) := rfl

/-- The sine of a real, at the extended reals, is the real sine. -/
theorem sin_coe (r : ℝ) : Ideal.sin (r : EReal) = ((Real.sin r : ℝ) : EReal) := rfl

/-- Dividing reals. -/
theorem div_coe (a b : ℝ) (hb : b ≠ 0) : Ideal.div (a : EReal) (b : EReal) = ((a / b : ℝ) : EReal) := by
  rw [Ideal.div, if_neg (by exact_mod_cast hb), div_eq_mul_inv, EReal.coe_mul, EReal.coe_inv]

/-- Twice the angle of the point `(-1, 0)` is a whole turn. -/
theorem two_pi : Ideal.ofBits .f32 1073741824#32 * Ideal.atan2 0 (Ideal.ofBits .f32 3212836864#32)
    = ((2 * Real.pi : ℝ) : EReal) := by
  have h : Ideal.atan2 ((0 : ℝ) : EReal) ((-1 : ℝ) : EReal)
      = ((if 0 < (-1 : ℝ) then Real.arctan (0 / (-1)) else if (-1 : ℝ) < 0 then
          (if (0 : ℝ) ≤ 0 then Real.arctan (0 / (-1)) + Real.pi else Real.arctan (0 / (-1)) - Real.pi)
        else if (0 : ℝ) < 0 then Real.pi / 2 else if (0 : ℝ) < 0 then -(Real.pi / 2) else 0 : ℝ) : EReal) := rfl
  rw [ofBits_two, ofBits_neg_one', show (0 : EReal) = ((0 : ℝ) : EReal) from rfl, h, ← EReal.coe_mul]
  congr 1
  norm_num

/-- The product of two small words, as an integer. -/
theorem muli_toInt {a b : ℕ} (h : a * b < 2147483648) :
    (IntOp.muli (BitVec.ofNat 32 a) (BitVec.ofNat 32 b)).toInt = ((a * b : ℕ) : ℤ) := by
  unfold IntOp.muli
  rw [← BitVec.ofNat_mul, BitVec.toInt_eq_toNat_cond, BitVec.toNat_ofNat, Nat.mod_eq_of_lt (by omega), if_pos (by omega)]

/-- An entry of an angle table. -/
theorem turn {a b n : ℕ} (h : a * b < 2147483648) (hn : n ≠ 0) :
    Ideal.div (Ideal.ofBits .f32 1073741824#32 * Ideal.atan2 0 (Ideal.ofBits .f32 3212836864#32)
      * (FloatOps.sitofp .f32 (IntOp.muli (BitVec.ofNat 32 a) (BitVec.ofNat 32 b)) : Ideal .f32)) ((n : ℝ) : EReal)
      = ((angle a b n : ℝ) : EReal) := by
  rw [two_pi, show (FloatOps.sitofp .f32 (IntOp.muli (BitVec.ofNat 32 a) (BitVec.ofNat 32 b)) : Ideal .f32)
    = (((IntOp.muli (BitVec.ofNat 32 a) (BitVec.ofNat 32 b)).toInt : ℝ) : EReal) from rfl, muli_toInt h, ← EReal.coe_mul,
    div_coe _ _ (by exact_mod_cast hn), angle]
  push_cast
  rfl

/-- Whether a small word is zero. -/
theorem cmpi_zero {r : ℕ} (h : r < 4294967296) : IntOp.cmpi .eq (BitVec.ofNat 32 r) 0#32 = if r = 0 then 1#1 else 0#1 := by
  unfold IntOp.cmpi
  by_cases h0 : r = 0
  · rw [if_pos h0, h0]; rfl
  · rw [if_neg h0]
    have hne : BitVec.ofNat 32 r ≠ 0#32 := by
      intro hh
      have := congrArg BitVec.toNat hh
      rw [BitVec.toNat_ofNat, Nat.mod_eq_of_lt (by omega)] at this
      exact h0 this
    rw [beq_eq_false_iff_ne.2 hne]; rfl

/-- The weight of frequency `r` in the inverse transform. -/
def weight (r : ℕ) : ℝ := (if r = 0 then 1 else 2) / 8192

end Cert.Scalars

end
-- ==== Proof.Shared.lean ====
module

public import proofs.«01_k».proof.Proof.Spectrum
public import proofs.«01_k».proof.Proof.Scalars

/-!
One column of the result, as mathematics

Both programs are read against `out`: the column's mean and deviation, its normalized and clipped entries, the
thirty-two frequencies of largest amplitude, and the synthesis of their coefficients at the low frequencies.
-/

@[expose] public section

noncomputable section

namespace Cert.Shared

open Idealize.ShloMosaic
open Cert.Fourier (angle)
open Cert.Choice (chosen)
open Cert.Select (key)
open Cert.Scalars

/-- The small number added to the clipped entries. -/
theorem ofBits_nano : Ideal.ofBits .f32 814313567#32 = ((9007199 / 2 ^ 53 : ℝ) : EReal) := by
  simp [Ideal.ofBits, Ideal.ieee, -EReal.coe_mul]; norm_num

variable (x : Fin 8192 → EReal)

/-- The column's mean. -/
def mean : EReal := Ideal.div (∑ t, x t) (Ideal.ofBits .f32 1174405120#32)

/-- The column's deviation (over one less than its length), with a small number added. -/
def dev : EReal :=
  Ideal.sqrt (Ideal.div (∑ t, (x t - mean x) * (x t - mean x)) (Ideal.ofBits .f32 1174403072#32))
    + Ideal.ofBits .f32 841731191#32

/-- The column's entry, normalized and clipped, with a small number added. -/
def nrm (t : Fin 8192) : EReal :=
  min (Ideal.ofBits .f32 1073741824#32) (max (Ideal.ofBits .f32 3221225472#32) (Ideal.div (x t - mean x) (dev x)))
    + Ideal.ofBits .f32 814313567#32

/-- The normalized column, as reals along the naturals. -/
def xs (n : ℕ) : ℝ := if h : n < 8192 then (nrm x ⟨n, h⟩).toReal else 0

/-- A clipped entry is a real number, whatever the column holds. -/
theorem nrm_real (t : Fin 8192) : nrm x t = ((xs x t : ℝ) : EReal) := by
  rw [xs, dif_pos t.isLt]
  have he := ofBits_nano
  have hlo : (⊥ : EReal) < min (Ideal.ofBits .f32 1073741824#32) (max (Ideal.ofBits .f32 3221225472#32) (Ideal.div (x t - mean x) (dev x))) := by
    rw [ofBits_two, ofBits_neg_two]
    exact lt_min (EReal.bot_lt_coe _) (lt_max_of_lt_left (EReal.bot_lt_coe _))
  have hhi : min (Ideal.ofBits .f32 1073741824#32) (max (Ideal.ofBits .f32 3221225472#32) (Ideal.div (x t - mean x) (dev x))) < ⊤ := by
    rw [ofBits_two]
    exact min_lt_of_left_lt (EReal.coe_lt_top _)
  rw [nrm, he]
  generalize min (Ideal.ofBits .f32 1073741824#32) (max (Ideal.ofBits .f32 3221225472#32) (Ideal.div (x t - mean x) (dev x))) = y at hlo hhi
  lift y to ℝ using ⟨hhi.ne, hlo.ne'⟩
  rw [← EReal.coe_add, EReal.toReal_coe]

/-- The frequency picked at place `r`. -/
def pick (r : ℕ) : ℕ := chosen (key (xs x)) r

/-- The synthesis at time `t`, put back to the column's scale. -/
def out (t : Fin 8192) : EReal :=
  (((∑ r : Fin 32, weight r * Real.cos (angle t r 8192) * Fourier.re (xs x) (pick x r)
      + ∑ r : Fin 32, -(weight r * Real.sin (angle t r 8192)) * Fourier.im (xs x) (pick x r) : ℝ) : EReal)
    * dev x) + mean x

end Cert.Shared

end
-- ==== Proof.Block.lean ====
module

public import proofs.«01_k».proof.Proof.Shared
public import Idealize.ShloMosaic.Lib.Pointwise

/-!
The block one grid point leaves, entry by entry
-/

@[expose] public section

set_option maxRecDepth 16384

noncomputable section

namespace Cert.Block

open Idealize.ShloMosaic Idealize.SL.Sem
open Cert.KernelIdeal Cert.KernelIdeal.Gen
open Cert.Fourier (angle)
open Cert.Select Cert.Scalars Cert.Shared

/-- Row `r` of the picked real parts is the `r`-th selection's. -/
theorem reRows_row (s : State Ideal) (r : Fin 32) (j : Fin 128) : s.reRows (ix2 r j) = (s.after r).re (ix1 j) := by
  pointwise [State.reRows, k0_pay281]
  fin_cases r <;> rfl

/-- Row `r` of the picked imaginary parts is the `r`-th selection's. -/
theorem imRows_row (s : State Ideal) (r : Fin 32) (j : Fin 128) : s.imRows (ix2 r j) = (s.after r).im (ix1 j) := by
  pointwise [State.imRows, k0_pay1, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306]
  fin_cases r <;> rfl

/-- Lane `j` of a block, as a column. -/
def lane (x0 : Vec Ideal S1x8192x128 .f32) (j : Fin 128) (t : Fin 8192) : EReal := x0 (ix3 0 t j)

/-- The block's row of means holds, in every lane, the mean of the lane's column. -/
theorem pay4_apply (x0 : Vec Ideal S1x8192x128 .f32) (j : Fin 128) : k0_pay4 x0 (ix2 0 j) = mean (lane x0 j) := by
  unfold mean lane
  pointwise [k0_pay4, k0_pay3]

/-- The block's row of deviations holds, in every lane, the deviation of the lane's column. -/
theorem pay6_apply (x0 : Vec Ideal S1x8192x128 .f32) (j : Fin 128) : k0_pay6 x0 (ix2 0 j) = dev (lane x0 j) := by
  unfold dev mean lane
  pointwise [k0_pay6, k0_pay5, k0_pay4, k0_pay3]

/-- The first stage's operand: the normalized and clipped column, folded to 128 rows of 64 groups of lanes. -/
theorem pay7_apply (x0 : Vec Ideal S1x8192x128 .f32) (a : Fin 128) (q : Fin 8192) :
    k0_pay7 x0 (ix2 a q) = min (Ideal.ofBits .f32 1073741824#32) (max (Ideal.ofBits .f32 3221225472#32)
      (Ideal.div (x0 (ix3 0 ⟨a * 64 + q / 128, by omega⟩ ⟨q % 128, by omega⟩) - k0_pay4 x0 (ix2 0 ⟨q % 128, by omega⟩))
        (k0_pay6 x0 (ix2 0 ⟨q % 128, by omega⟩)))) + Ideal.ofBits .f32 814313567#32 := by
  pointwise [k0_pay7, k0_pay5, k0_pay3]

/-- The normalized column in the layout of the first stage. -/
theorem pay7_lane (x0 : Vec Ideal S1x8192x128 .f32) (j : Fin 128) (a : Fin 128) (b : Fin 64) :
    k0_pay7 x0 (ix2 a ⟨b * 128 + j, lane_lt b j⟩) = ((xs (lane x0 j) (a * 64 + b) : ℝ) : EReal) := by
  have hlt : (a : ℕ) * 64 + b < 8192 := by omega
  have hj : (⟨(b * 128 + j : ℕ) % 128, by omega⟩ : Fin 128) = j := Fin.ext (by show (b * 128 + j : ℕ) % 128 = j; omega)
  have ht : (⟨a * 64 + (b * 128 + j : ℕ) / 128, by omega⟩ : Fin 8192) = ⟨a * 64 + b, hlt⟩ :=
    Fin.ext (by show a * 64 + (b * 128 + j : ℕ) / 128 = a * 64 + b; omega)
  rw [pay7_apply]
  simp only [hj, ht, pay4_apply, pay6_apply]
  exact nrm_real (lane x0 j) ⟨a * 64 + b, hlt⟩

/-- What the block stores: the two synthesis sums over the thirty-two picks, scaled by the deviation and moved by the
mean. -/
theorem pay2_apply (v5 v15 : FVec Ideal S1x128 .f32) (v823 v856 : FVec Ideal S32x128 .f32) (v857 v860 : Vec Ideal S8192x32 .f32)
    (t : Fin 8192) (j : Fin 128) : k0_pay2 v5 v15 v823 v856 v857 v860 (ix3 0 t j)
      = (∑ r : Fin 32, v857 (ix2 t r) * v823 (ix2 r j) + ∑ r : Fin 32, v860 (ix2 t r) * v856 (ix2 r j)) * v15 (ix2 0 j) + v5 (ix2 0 j) := by
  pointwise [k0_pay2]

variable {x0 : Vec Ideal S1x8192x128 .f32} {x1 x2 : Vec Ideal S128x128 .f32} {x3 x4 : Vec Ideal S128x64 .f32}
  {x5 x6 : Vec Ideal S32x64 .f32} {x7 x8 : Vec Ideal S8192x32 .f32}

/-- The block's entry at time `t` of lane `j` is the column's result at `t`. -/
theorem blockOf_apply
    (h1 : ∀ (a b : Fin 128), x1 (ix2 a b) = ((Real.cos (angle a b 128) : ℝ) : EReal))
    (h2 : ∀ (a b : Fin 128), x2 (ix2 a b) = ((-Real.sin (angle a b 128) : ℝ) : EReal))
    (h3 : ∀ (a : Fin 128) (b : Fin 64), x3 (ix2 a b) = ((Real.cos (angle a b 8192) : ℝ) : EReal))
    (h4 : ∀ (a : Fin 128) (b : Fin 64), x4 (ix2 a b) = ((-Real.sin (angle a b 8192) : ℝ) : EReal))
    (h5 : ∀ (a : Fin 32) (b : Fin 64), x5 (ix2 a b) = ((Real.cos (angle a b 64) : ℝ) : EReal))
    (h6 : ∀ (a : Fin 32) (b : Fin 64), x6 (ix2 a b) = ((-Real.sin (angle a b 64) : ℝ) : EReal))
    (h7 : ∀ (a : Fin 8192) (b : Fin 32), x7 (ix2 a b) = ((weight b * Real.cos (angle a b 8192) : ℝ) : EReal))
    (h8 : ∀ (a : Fin 8192) (b : Fin 32), x8 (ix2 a b) = ((-(weight b * Real.sin (angle a b 8192)) : ℝ) : EReal))
    (t : Fin 8192) (j : Fin 128) : blockOf x0 x1 x2 x3 x4 x5 x6 x7 x8 (ix3 0 t j) = out (lane x0 j) t := by
  have hK := known_startOf (j := j) h1 h2 h3 h4 h5 h6 (fun a b => pay7_lane x0 j a b)
  have h0 := key_zero (xs (lane x0 j))
  have hpos := key_pos (xs (lane x0 j))
  have hre : ∀ r : Fin 32, (startOf x0 x1 x2 x3 x4 x5 x6).reRows (ix2 r j)
      = ((Fourier.re (xs (lane x0 j)) (pick (lane x0 j) r) : ℝ) : EReal) := fun r =>
    (reRows_row _ r j).trans (re_known h0 hpos (by omega) (known_after h0 hpos hK r (by omega)))
  have him : ∀ r : Fin 32, (startOf x0 x1 x2 x3 x4 x5 x6).imRows (ix2 r j)
      = ((Fourier.im (xs (lane x0 j)) (pick (lane x0 j) r) : ℝ) : EReal) := fun r =>
    (imRows_row _ r j).trans (im_known h0 hpos (by omega) (known_after h0 hpos hK r (by omega)))
  rw [blockOf, pay2_apply, pay4_apply, pay6_apply, out]
  simp only [hre, him, h7, h8, ← EReal.coe_mul]
  rw [← Fourier.coe_sum, ← Fourier.coe_sum, ← EReal.coe_add]

end Cert.Block

end
-- ==== Proof.Tables.lean ====
module

public import proofs.«01_k».proof.Proof.Scalars
public import proofs.«01_k».proof.Proof.Piece
public import Idealize.ShloMosaic.Lib.Pointwise
public import Idealize.ShloMosaic.Lib.Claim
public import Idealize.ShloMosaic.Lib.Tactic.CleanTypes

/-!
The kernel's eight tables, at the extended reals
-/

@[expose] public section

set_option maxRecDepth 16384

noncomputable section

namespace Cert.Tables

open Idealize.ShloMosaic Idealize.SL.Sem Idealize.ShloMosaic.TcCoe
open Cert.KernelIdeal Cert.KernelIdeal.Gen
open Cert.Fourier (angle)
open Cert.Scalars

variable (m : (ℓ : Loc nD τ sig) → Buf (Elt Ideal) ℓ) (c : Dev nD)

/-- The first-stage cosines. -/
def tab1 : FVec Ideal S128x128 .f32 := V m c (Pipeline.arrRef spec0 1)
/-- The first-stage sines, negated. -/
def tab2 : FVec Ideal S128x128 .f32 := V m c (Pipeline.arrRef spec0 2)
/-- The rotation's cosines. -/
def tab3 : FVec Ideal S128x64 .f32 := V m c (Pipeline.arrRef spec0 3)
/-- The rotation's sines, negated. -/
def tab4 : FVec Ideal S128x64 .f32 := V m c (Pipeline.arrRef spec0 4)
/-- The second-stage cosines. -/
def tab5 : FVec Ideal S32x64 .f32 := V m c (Pipeline.arrRef spec0 5)
/-- The second-stage sines, negated. -/
def tab6 : FVec Ideal S32x64 .f32 := V m c (Pipeline.arrRef spec0 6)
/-- The synthesis cosines. -/
def tab7 : FVec Ideal S8192x32 .f32 := V m c (Pipeline.arrRef spec0 7)
/-- The synthesis sines, negated. -/
def tab8 : FVec Ideal S8192x32 .f32 := V m c (Pipeline.arrRef spec0 8)

/-- The first stage's cosines. -/
theorem tab1_val (a : Fin 128) (b : Fin 128) : tab1 m c (ix2 a b) = ((Real.cos (angle a b 128) : ℝ) : EReal) := by
  unfold tab1
  entry_read
  simp only [StableHlo.TRef.ofBuf_toBuf, StableHlo.TRef.toBuf, cast_eq]
  clean_types
  pointwise
  rw [ofBits_128, turn (lt_of_le_of_lt (Nat.mul_le_mul a.isLt.le b.isLt.le) (by norm_num)) (by norm_num)]
  rfl

/-- The first stage's negated sines. -/
theorem tab2_val (a : Fin 128) (b : Fin 128) : tab2 m c (ix2 a b) = ((-Real.sin (angle a b 128) : ℝ) : EReal) := by
  unfold tab2
  entry_read
  simp only [StableHlo.TRef.ofBuf_toBuf, StableHlo.TRef.toBuf, cast_eq]
  clean_types
  pointwise
  rw [ofBits_128, turn (lt_of_le_of_lt (Nat.mul_le_mul a.isLt.le b.isLt.le) (by norm_num)) (by norm_num)]
  rfl

/-- The rotation's cosines. -/
theorem tab3_val (a : Fin 128) (b : Fin 64) : tab3 m c (ix2 a b) = ((Real.cos (angle a b 8192) : ℝ) : EReal) := by
  unfold tab3
  entry_read
  simp only [StableHlo.TRef.ofBuf_toBuf, StableHlo.TRef.toBuf, cast_eq]
  clean_types
  pointwise
  rw [ofBits_8192, turn (lt_of_le_of_lt (Nat.mul_le_mul a.isLt.le b.isLt.le) (by norm_num)) (by norm_num)]
  rfl

/-- The rotation's negated sines. -/
theorem tab4_val (a : Fin 128) (b : Fin 64) : tab4 m c (ix2 a b) = ((-Real.sin (angle a b 8192) : ℝ) : EReal) := by
  unfold tab4
  entry_read
  simp only [StableHlo.TRef.ofBuf_toBuf, StableHlo.TRef.toBuf, cast_eq]
  clean_types
  pointwise
  rw [ofBits_8192, turn (lt_of_le_of_lt (Nat.mul_le_mul a.isLt.le b.isLt.le) (by norm_num)) (by norm_num)]
  rfl

/-- The second stage's cosines. -/
theorem tab5_val (a : Fin 32) (b : Fin 64) : tab5 m c (ix2 a b) = ((Real.cos (angle a b 64) : ℝ) : EReal) := by
  unfold tab5
  entry_read
  simp only [StableHlo.TRef.ofBuf_toBuf, StableHlo.TRef.toBuf, cast_eq]
  clean_types
  pointwise
  rw [ofBits_64, turn (lt_of_le_of_lt (Nat.mul_le_mul a.isLt.le b.isLt.le) (by norm_num)) (by norm_num)]
  rfl

/-- The second stage's negated sines. -/
theorem tab6_val (a : Fin 32) (b : Fin 64) : tab6 m c (ix2 a b) = ((-Real.sin (angle a b 64) : ℝ) : EReal) := by
  unfold tab6
  entry_read
  simp only [StableHlo.TRef.ofBuf_toBuf, StableHlo.TRef.toBuf, cast_eq]
  clean_types
  pointwise
  rw [ofBits_64, turn (lt_of_le_of_lt (Nat.mul_le_mul a.isLt.le b.isLt.le) (by norm_num)) (by norm_num)]
  rfl

/-- The synthesis table of weighted cosines. -/
theorem tab7_val (a : Fin 8192) (b : Fin 32) : tab7 m c (ix2 a b) = ((weight b * Real.cos (angle a b 8192) : ℝ) : EReal) := by
  unfold tab7
  entry_read
  simp only [StableHlo.TRef.ofBuf_toBuf, StableHlo.TRef.toBuf, cast_eq]
  clean_types
  pointwise
  rw [ofBits_8192, turn (lt_of_le_of_lt (Nat.mul_le_mul a.isLt.le b.isLt.le) (by norm_num)) (by norm_num), cmpi_zero (by omega),
    Select.sel_ite, ofBits_two]
  rw [cos_coe, div_coe _ _ (by norm_num), weight]
  split
  · congr 1; push_cast; ring
  · rw [← EReal.coe_mul]; congr 1; push_cast; ring

/-- The synthesis table of negated weighted sines. -/
theorem tab8_val (a : Fin 8192) (b : Fin 32) : tab8 m c (ix2 a b) = ((-(weight b * Real.sin (angle a b 8192)) : ℝ) : EReal) := by
  unfold tab8
  entry_read
  simp only [StableHlo.TRef.ofBuf_toBuf, StableHlo.TRef.toBuf, cast_eq]
  clean_types
  pointwise
  rw [ofBits_8192, turn (lt_of_le_of_lt (Nat.mul_le_mul a.isLt.le b.isLt.le) (by norm_num)) (by norm_num), cmpi_zero (by omega),
    Select.sel_ite, ofBits_neg_two]
  rw [sin_coe, ← EReal.coe_mul, div_coe _ _ (by norm_num), weight]
  split
  · rename_i h
    rw [h, angle]
    simp
  · congr 1; push_cast; ring

end Cert.Tables

end
-- ==== Proof.Whole.lean ====
module

public import proofs.«01_k».proof.Proof.Block
public import proofs.«01_k».proof.Proof.Tables
public import proofs.«01_k».proof.Proof.Gen.KernelIdeal.Value

/-!
The kernel's result array

Each grid point's block is its block of one array, whose entry is the column's result; the blocks tile the array.
-/

@[expose] public section

set_option maxRecDepth 16384

noncomputable section

namespace Cert.Whole

open Cert.KernelIdeal Cert.KernelIdeal.Gen Idealize.ShloMosaic Idealize.ShloMosaic.TcCoe Idealize.SL.Sem
open Idealize.ShloMosaic.Pipeline (Dat)
open Cert.Select (blockOf)
open Cert.Tables

variable (m : (ℓ : Loc nD τ sig) → Buf (Elt Ideal) ℓ) (ρ : Dev nD → PrngReg)

/-- The argument of device `c`. -/
def arg (c : Dev nD) : FVec Ideal S4x8192x768 .f32 := m ((c : Thread nD τ).loc main_arg0)

/-- The result, from the argument. -/
def full (X : FVec Ideal S4x8192x768 .f32) : FVec Ideal S4x8192x768 .f32 :=
  fun i => Shared.out (fun t => X (ix3 (i 0) t (i 2))) (i 1)

/-- The input's block at a grid point: the batch, all times, and the group of 128 columns. -/
theorem index0 : ∀ t : Fin cfg0.N, win0_0.index t 0 = t.val / 6 ∧ win0_0.index t 1 = 0 ∧ win0_0.index t 2 = t.val % 6 :=
  (by decide +kernel : ∀ t : Fin grid0.N, win0_0.index t 0 = t.val / 6 ∧ win0_0.index t 1 = 0 ∧ win0_0.index t 2 = t.val % 6)

/-- The result's block at a grid point: the batch, all times, and the group of 128 columns. -/
theorem index9 : ∀ t : Fin cfg0.N, win0_9.index t 0 = t.val / 6 ∧ win0_9.index t 1 = 0 ∧ win0_9.index t 2 = t.val % 6 :=
  (by decide +kernel : ∀ t : Fin grid0.N, win0_9.index t 0 = t.val / 6 ∧ win0_9.index t 1 = 0 ∧ win0_9.index t 2 = t.val % 6)

/-- Table 1 is one block, the same at every grid point. -/
theorem index1 : ∀ t : Fin cfg0.N, win0_1.index t 0 = 0 ∧ win0_1.index t 1 = 0 :=
  (by decide +kernel : ∀ t : Fin grid0.N, win0_1.index t 0 = 0 ∧ win0_1.index t 1 = 0)

/-- Table 1's block at every point is the whole table. -/
theorem iblk1_eq (c : Dev nD) (t : Fin cfg0.N) : iblk m c 1 t = tab1 m c := by
  funext j
  show tab1 m c (((cfg0.win 1).blk t).view.emb j) = tab1 m c j
  obtain ⟨e0, e1⟩ := index1 t
  refine congrArg (tab1 m c) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Table 2 is one block, the same at every grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- Table 2's block at every point is the whole table. -/
theorem iblk2_eq (c : Dev nD) (t : Fin cfg0.N) : iblk m c 2 t = tab2 m c := by
  funext j
  show tab2 m c (((cfg0.win 2).blk t).view.emb j) = tab2 m c j
  obtain ⟨e0, e1⟩ := index2 t
  refine congrArg (tab2 m c) (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- Table 3 is one block, the same at every grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- Table 3's block at every point is the whole table. -/
theorem iblk3_eq (c : Dev nD) (t : Fin cfg0.N) : iblk m c 3 t = tab3 m c := by
  funext j
  show tab3 m c (((cfg0.win 3).blk t).view.emb j) = tab3 m c j
  obtain ⟨e0, e1⟩ := index3 t
  refine congrArg (tab3 m c) (funext fun a => Fin.ext ?_)
  match a with
  | ⟨0, _⟩ => show win0_3.index t (0 : Fin 2) * 128 + 1 * (j 0).val = (j 0).val; omega
  | ⟨1, _⟩ => show win0_3.index t (1 : Fin 2) * 64 + 1 * (j 1).val = (j 1).val; omega

/-- Table 4 is one block, the same at every grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- Table 4's block at every point is the whole table. -/
theorem iblk4_eq (c : Dev nD) (t : Fin cfg0.N) : iblk m c 4 t = tab4 m c := by
  funext j
  show tab4 m c (((cfg0.win 4).blk t).view.emb j) = tab4 m c j
  obtain ⟨e0, e1⟩ := index4 t
  refine congrArg (tab4 m c) (funext fun a => Fin.ext ?_)
  match a with
  | ⟨0, _⟩ => show win0_4.index t (0 : Fin 2) * 128 + 1 * (j 0).val = (j 0).val; omega
  | ⟨1, _⟩ => show win0_4.index t (1 : Fin 2) * 64 + 1 * (j 1).val = (j 1).val; omega

/-- Table 5 is one block, the same at every grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- Table 5's block at every point is the whole table. -/
theorem iblk5_eq (c : Dev nD) (t : Fin cfg0.N) : iblk m c 5 t = tab5 m c := by
  funext j
  show tab5 m c (((cfg0.win 5).blk t).view.emb j) = tab5 m c j
  obtain ⟨e0, e1⟩ := index5 t
  refine congrArg (tab5 m c) (funext fun a => Fin.ext ?_)
  match a with
  | ⟨0, _⟩ => show win0_5.index t (0 : Fin 2) * 32 + 1 * (j 0).val = (j 0).val; omega
  | ⟨1, _⟩ => show win0_5.index t (1 : Fin 2) * 64 + 1 * (j 1).val = (j 1).val; omega

/-- Table 6 is one block, the same at every grid point. -/
theorem index6 : ∀ t : Fin cfg0.N, win0_6.index t 0 = 0 ∧ win0_6.index t 1 = 0 :=
  (by decide +kernel : ∀ t : Fin grid0.N, win0_6.index t 0 = 0 ∧ win0_6.index t 1 = 0)

/-- Table 6's block at every point is the whole table. -/
theorem iblk6_eq (c : Dev nD) (t : Fin cfg0.N) : iblk m c 6 t = tab6 m c := by
  funext j
  show tab6 m c (((cfg0.win 6).blk t).view.emb j) = tab6 m c j
  obtain ⟨e0, e1⟩ := index6 t
  refine congrArg (tab6 m c) (funext fun a => Fin.ext ?_)
  match a with
  | ⟨0, _⟩ => show win0_6.index t (0 : Fin 2) * 32 + 1 * (j 0).val = (j 0).val; omega
  | ⟨1, _⟩ => show win0_6.index t (1 : Fin 2) * 64 + 1 * (j 1).val = (j 1).val; omega

/-- Table 7 is one block, the same at every grid point. -/
theorem index7 : ∀ t : Fin cfg0.N, win0_7.index t 0 = 0 ∧ win0_7.index t 1 = 0 :=
  (by decide +kernel : ∀ t : Fin grid0.N, win0_7.index t 0 = 0 ∧ win0_7.index t 1 = 0)

/-- Table 7's block at every point is the whole table. -/
theorem iblk7_eq (c : Dev nD) (t : Fin cfg0.N) : iblk m c 7 t = tab7 m c := by
  funext j
  show tab7 m c (((cfg0.win 7).blk t).view.emb j) = tab7 m c j
  obtain ⟨e0, e1⟩ := index7 t
  refine congrArg (tab7 m c) (funext fun a => Fin.ext ?_)
  match a with
  | ⟨0, _⟩ => show win0_7.index t (0 : Fin 2) * 8192 + 1 * (j 0).val = (j 0).val; omega
  | ⟨1, _⟩ => show win0_7.index t (1 : Fin 2) * 32 + 1 * (j 1).val = (j 1).val; omega

/-- Table 8 is one block, the same at every grid point. -/
theorem index8 : ∀ t : Fin cfg0.N, win0_8.index t 0 = 0 ∧ win0_8.index t 1 = 0 :=
  (by decide +kernel : ∀ t : Fin grid0.N, win0_8.index t 0 = 0 ∧ win0_8.index t 1 = 0)

/-- Table 8's block at every point is the whole table. -/
theorem iblk8_eq (c : Dev nD) (t : Fin cfg0.N) : iblk m c 8 t = tab8 m c := by
  funext j
  show tab8 m c (((cfg0.win 8).blk t).view.emb j) = tab8 m c j
  obtain ⟨e0, e1⟩ := index8 t
  refine congrArg (tab8 m c) (funext fun a => Fin.ext ?_)
  match a with
  | ⟨0, _⟩ => show win0_8.index t (0 : Fin 2) * 8192 + 1 * (j 0).val = (j 0).val; omega
  | ⟨1, _⟩ => show win0_8.index t (1 : Fin 2) * 32 + 1 * (j 1).val = (j 1).val; omega

/-- Where the argument's block of point `t` lies. -/
theorem emb0 (t : Fin cfg0.N) (u : Fin 8192) (j : Fin 128) (h0 : t.val / 6 < 4) (h2 : t.val % 6 * 128 + j < 768) :
    ((cfg0.win 0).blk t).view.emb (ix3 0 u j : S1x8192x128.Idx) = (ix3 ⟨t.val / 6, h0⟩ u ⟨t.val % 6 * 128 + j, h2⟩ : S4x8192x768.Idx) := by
  obtain ⟨e0, e1, e2⟩ := index0 t
  funext a; apply Fin.ext
  match a with
  | ⟨0, _⟩ => show win0_0.index t (0 : Fin 3) * 1 + 1 * 0 = t.val / 6; omega
  | ⟨1, _⟩ => show win0_0.index t (1 : Fin 3) * 8192 + 1 * u.val = u.val; omega
  | ⟨2, _⟩ => show win0_0.index t (2 : Fin 3) * 128 + 1 * j.val = t.val % 6 * 128 + j.val; omega

/-- Where the result's block of point `t` lies. -/
theorem emb9 (t : Fin cfg0.N) (u : Fin 8192) (j : Fin 128) (h0 : t.val / 6 < 4) (h2 : t.val % 6 * 128 + j < 768) :
    ((cfg0.win 9).blk t).view.emb (ix3 0 u j : S1x8192x128.Idx) = (ix3 ⟨t.val / 6, h0⟩ u ⟨t.val % 6 * 128 + j, h2⟩ : S4x8192x768.Idx) := by
  obtain ⟨e0, e1, e2⟩ := index9 t
  funext a; apply Fin.ext
  match a with
  | ⟨0, _⟩ => show win0_9.index t (0 : Fin 3) * 1 + 1 * 0 = t.val / 6; omega
  | ⟨1, _⟩ => show win0_9.index t (1 : Fin 3) * 8192 + 1 * u.val = u.val; omega
  | ⟨2, _⟩ => show win0_9.index t (2 : Fin 3) * 128 + 1 * j.val = t.val % 6 * 128 + j.val; omega

/-- The argument's block of point `t`, read. -/
theorem iblk0_apply (c : Dev nD) (t : Fin cfg0.N) (u : Fin 8192) (j : Fin 128) (h0 : t.val / 6 < 4) (h2 : t.val % 6 * 128 + j < 768) :
    (iblk m c 0 t : Vec Ideal S1x8192x128 .f32) (ix3 0 u j) = arg m c (ix3 ⟨t.val / 6, h0⟩ u ⟨t.val % 6 * 128 + j, h2⟩) := by
  show V m c main_arg0 (((cfg0.win 0).blk t).view.emb (ix3 0 u j : S1x8192x128.Idx)) = _
  rw [emb0 t u j h0 h2, V_main_arg0]
  rfl

/-- What the run leaves is the one stored block. -/
theorem out_eq (c : Dev nD) (i : grid0.Coords) (arg2 : Memref sig .tc .vmem S1x8192x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x64 .f32) (harg5 : arg5.IsWhole) (arg6 : Memref sig .tc .vmem S128x64 .f32) (harg6 : arg6.IsWhole)
    (arg7 : Memref sig .tc .vmem S32x64 .f32) (harg7 : arg7.IsWhole) (arg8 : Memref sig .tc .vmem S32x64 .f32) (harg8 : arg8.IsWhole)
    (arg9 : Memref sig .tc .vmem S8192x32 .f32) (harg9 : arg9.IsWhole) (arg10 : Memref sig .tc .vmem S8192x32 .f32) (harg10 : arg10.IsWhole)
    (arg11 : Memref sig .tc .vmem S1x8192x128 .f32) (harg11 : arg11.IsWhole) (arg12 : Memref sig .tc .vmem S8x128 .f32) (harg12 : arg12.IsWhole)
    (x0 : Vec Ideal S1x8192x128 .f32) (x1 x2 : Vec Ideal S128x128 .f32) (x3 x4 : Vec Ideal S128x64 .f32)
    (x5 x6 : Vec Ideal S32x64 .f32) (x7 x8 : Vec Ideal S8192x32 .f32) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = blockOf x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8),
    Cert.Select.run_pieces, View.canon_unit_zero Cert.Select.zero3]

/-- What point `t` writes back is its block of `full` of the argument. -/
theorem flushed_eq (c : Dev nD) (t : Fin cfg0.N) :
    (dats m 0 c).flushed 9 t = ((cfg0.win 9).blk t).view.read (Elt Ideal) (full (arg m c)) := by
  have ht : t.val < 24 := t.isLt
  have h0 : t.val / 6 < 4 := by omega
  rw [Value.flushed9_A, out_eq, iblk1_eq, iblk2_eq, iblk3_eq, iblk4_eq, iblk5_eq, iblk6_eq, iblk7_eq, iblk8_eq]
  funext y
  show blockOf (iblk m c 0 t) (tab1 m c) (tab2 m c) (tab3 m c) (tab4 m c) (tab5 m c) (tab6 m c) (tab7 m c) (tab8 m c) y
    = full (arg m c) (((cfg0.win 9).blk t).view.emb y)
  obtain ⟨u, j, rfl⟩ : ∃ (u : Fin 8192) (j : Fin 128), y = (ix3 0 u j : S1x8192x128.Idx) := by
    refine ⟨y 1, y 2, funext fun a => ?_⟩
    match a with
    | ⟨0, _⟩ => exact Fin.ext (Nat.lt_one_iff.1 (y 0).isLt)
    | ⟨1, _⟩ => rfl
    | ⟨2, _⟩ => rfl
  have h2 : t.val % 6 * 128 + j < 768 := by omega
  rw [emb9 t u j h0 h2, Block.blockOf_apply (tab1_val m c) (tab2_val m c) (tab3_val m c) (tab4_val m c) (tab5_val m c) (tab6_val m c)
    (tab7_val m c) (tab8_val m c)]
  show Shared.out _ u = Shared.out _ u
  congr 1
  funext v
  exact iblk0_apply m c t v j h0 h2

/-- Equal things are in the same sets. -/
theorem mem_of_eq {α : Type} {s : Finset α} {x y : α} (h : x = y) (hx : x ∈ s) : y ∈ s := h ▸ hx

/-- Every index of the result array is in some point's block. -/
theorem cover (i : S4x8192x768.Idx) :
    ∃ t : Fin cfg0.N, (cfg0.win 9).flush t = true ∧ i ∈ ((cfg0.win 9).blk t).view.set := by
  have i0 : (i 0 : ℕ) < 4 := (i 0).isLt
  have i2 : (i 2 : ℕ) < 768 := (i 2).isLt
  have hN : cfg0.N = 24 := N_0
  refine ⟨⟨(i 0 : ℕ) * 6 + (i 2 : ℕ) / 128, by omega⟩, flush0_9 _, ?_⟩
  have h := ((cfg0.win 9).blk (⟨(i 0 : ℕ) * 6 + (i 2 : ℕ) / 128, by omega⟩ : Fin cfg0.N)).view.emb_mem_set
    (ix3 0 (i 1) ⟨(i 2 : ℕ) % 128, Nat.mod_lt _ (by norm_num)⟩ : S1x8192x128.Idx)
  have e := emb9 ⟨(i 0 : ℕ) * 6 + (i 2 : ℕ) / 128, by omega⟩ (i 1) ⟨(i 2 : ℕ) % 128, Nat.mod_lt _ (by norm_num)⟩
    (by show ((i 0 : ℕ) * 6 + (i 2 : ℕ) / 128) / 6 < 4; omega)
    (by show ((i 0 : ℕ) * 6 + (i 2 : ℕ) / 128) % 6 * 128 + (i 2 : ℕ) % 128 < 768; omega)
  refine mem_of_eq (e.trans ?_) h
  funext a; apply Fin.ext
  match a with
  | ⟨0, _⟩ => show ((i 0 : ℕ) * 6 + (i 2 : ℕ) / 128) / 6 = (i 0 : ℕ); omega
  | ⟨1, _⟩ => rfl
  | ⟨2, _⟩ => show ((i 0 : ℕ) * 6 + (i 2 : ℕ) / 128) % 6 * 128 + (i 2 : ℕ) % 128 = (i 2 : ℕ); omega

/-- The result array after the run. -/
theorem final (c : Dev nD) : (dats m 0 c).arrAt 9 cfg0.N = full (arg m c) :=
  (dats m 0 c).arrAt_eq_of_cover 9 (full (arg m c)) (fun t _ => flushed_eq m c t) cover

/-- The kernel's run: its result array at `full` of the argument, its argument unchanged. -/
theorem run : θ_run defs (onTc (τ := τ) (main (F := Ideal))) ⟨m, fun _ => 0, ρ⟩ fun r => ∀ c : Dev nD,
      r.2.mem ((c : Thread nD τ).loc main_v0) = full (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.Whole

end
-- ==== Proof.Reference.lean ====
module

public import proofs.«01_k».proof.Proof.Shared
public import proofs.«01_k».proof.Proof.Gen.ReferenceIdeal.Run
public import Idealize.ShloMosaic.Lib.Pointwise
public import Idealize.ShloMosaic.Lib.Tactic.CleanTypes

/-!
The reference, entry by entry: up to the amplitudes
-/

@[expose] public section

set_option maxRecDepth 16384

noncomputable section

namespace Cert.Ref

open Idealize.ShloMosaic Idealize.SL.Sem Idealize.ShloMosaic.TcCoe Idealize.ShloMosaic.StableHlo
open Cert.ReferenceIdeal Cert.ReferenceIdeal.Gen Cert.ReferenceIdeal.Value
open Cert.Fourier (angle)
open Cert.Scalars
open Cert.Shared (xs nrm_real)

variable (V0 : Valuation τ sig (Elt Ideal))

/-- The argument. -/
def arg : FVec Ideal S4x8192x768 .f32 := V0 (Proc.devRef .tc main_arg0)
/-- The means. -/
def mean : FVec Ideal S4x1x768 .f32 := res_main_v3 V0
/-- The centred argument. -/
def cent : FVec Ideal S4x8192x768 .f32 := res_main_call0_call0_v5 V0
/-- The count the variance divides by. -/
def cnt : FVec Ideal S_ .f32 := res_main_call0_call0_v8 V0
/-- The deviations. -/
def dev : FVec Ideal S4x1x768 .f32 := res_main_v6 V0
/-- The normalized argument. -/
def norm : FVec Ideal S4x8192x768 .f32 := res_main_v15 V0
/-- The angles of the transform. -/
def ang : FVec Ideal S4095x8192 .f32 := res_main_v31 V0
/-- The real parts. -/
def re0 : FVec Ideal S4x4095x768 .f32 := res_main_v34 V0
/-- The imaginary parts. -/
def im0 : FVec Ideal S4x4095x768 .f32 := res_main_v38 V0
/-- The real parts, as the gather reads them. -/
def re1 : FVec Ideal S4x4095x768 .f32 := res_main_v41 V0
/-- The imaginary parts, as the gather reads them. -/
def im1 : FVec Ideal S4x4095x768 .f32 := res_main_v44 V0
/-- The amplitudes. -/
def amp : FVec Ideal S4x768x4095 .f32 := res_main_v49 V0
/-- The places picked. -/
def idx : IVec S4x32x768 32 := res_main_v50 V0
/-- The angles of the synthesis. -/
def sang : FVec Ideal S8192x32 .f32 := res_main_v65 V0
/-- The weights of the synthesis. -/
def wt : FVec Ideal S1x32 .f32 := res_main_v71 V0

/-- One column of the argument. -/
def col (b : Fin 4) (j : Fin 768) (t : Fin 8192) : EReal := arg V0 (ix3 b t j)

/-- The reference's mean is the column's mean. -/
theorem mean_apply (b : Fin 4) (j : Fin 768) : mean V0 (ix3 b 0 j) = Shared.mean (col V0 b j) := by
  unfold mean res_main_v3 Shared.mean col arg
  clean_types
  pointwise

/-- The centred entry is the column's entry less the column's mean. -/
theorem cent_apply (b : Fin 4) (t : Fin 8192) (j : Fin 768) :
    cent V0 (ix3 b t j) = col V0 b j t - Shared.mean (col V0 b j) := by
  unfold cent res_main_call0_call0_v5 Shared.mean col arg
  clean_types
  pointwise

/-- The count that the variance is divided by is 8191. -/
theorem cnt_apply : cnt V0 ix0 = Ideal.ofBits .f32 1174403072#32 := by
  have h : cnt V0 ix0 = Ideal.ofBits .f32 1174405120#32 - (FloatOps.sitofp .f32 (1#32 : BitVec 32) : Ideal .f32) := by
    unfold cnt res_main_call0_call0_v8
    clean_types
    pointwise
  rw [h, show (FloatOps.sitofp .f32 (1#32 : BitVec 32) : Ideal .f32) = (((1#32 : BitVec 32).toInt : ℝ) : EReal) from rfl,
    ofBits_8192, ofBits_8191, ← EReal.coe_sub]
  congr 1
  norm_num

/-- The deviation, as the program computes it, with the choice for an empty count. -/
theorem dev_read (b : Fin 4) (j : Fin 768) : dev V0 (ix3 b 0 j)
    = Ideal.sqrt (if 0 < cnt V0 ix0 then Ideal.div (∑ t : Fin 8192, cent V0 (ix3 b t j) * cent V0 (ix3 b t j)) (cnt V0 ix0)
        else Ideal.ofBits .f32 2143289344#32) + Ideal.ofBits .f32 841731191#32 := by
  unfold dev res_main_v6 cent cnt
  simp only [id_eq]
  clean_types
  pointwise

/-- The reference's deviation is the column's deviation. -/
theorem dev_apply (b : Fin 4) (j : Fin 768) : dev V0 (ix3 b 0 j) = Shared.dev (col V0 b j) := by
  have hpos : (0 : EReal) < cnt V0 ix0 := by rw [cnt_apply, ofBits_8191]; exact_mod_cast (by norm_num : (0 : ℝ) < 8191)
  rw [dev_read, if_pos hpos, cnt_apply, Shared.dev]
  simp only [cent_apply]

/-- The normalized entry, as the program computes it. -/
theorem norm_read (b : Fin 4) (t : Fin 8192) (j : Fin 768) : norm V0 (ix3 b t j)
    = min (Ideal.ofBits .f32 1073741824#32) (max (Ideal.ofBits .f32 3221225472#32)
      (Ideal.div (col V0 b j t - mean V0 (ix3 b 0 j)) (dev V0 (ix3 b 0 j)))) + Ideal.ofBits .f32 814313567#32 := by
  unfold norm res_main_v15 col arg mean dev
  simp only [id_eq]
  clean_types
  pointwise

/-- The normalized argument's entries are real. -/
theorem norm_apply (b : Fin 4) (t : Fin 8192) (j : Fin 768) : norm V0 (ix3 b t j) = ((xs (col V0 b j) t : ℝ) : EReal) := by
  rw [norm_read, mean_apply, dev_apply, ← nrm_real, Shared.nrm]

/-- The transform's angle, as the program computes it. -/
theorem ang_read (f : Fin 4095) (t : Fin 8192) : ang V0 (ix2 f t)
    = Ideal.div (Ideal.ofBits .f32 1073741824#32 * Ideal.atan2 0 (Ideal.ofBits .f32 3212836864#32)
      * (FloatOps.sitofp .f32 (IntOp.muli (IntOp.addi 1#32 (BitVec.ofNat 32 f)) (BitVec.ofNat 32 t)) : Ideal .f32))
      (Ideal.ofBits .f32 1174405120#32) := by
  unfold ang res_main_v31 res_main_v16
  clean_types
  pointwise

/-- The transform's angle is two pi times frequency times time over 8192, frequencies starting at 1. -/
theorem ang_apply (f : Fin 4095) (t : Fin 8192) : ang V0 (ix2 f t) = ((angle (f + 1 : ℕ) t 8192 : ℝ) : EReal) := by
  have e : IntOp.addi 1#32 (BitVec.ofNat 32 f) = BitVec.ofNat 32 (f + 1 : ℕ) := by
    unfold IntOp.addi
    rw [show (1#32 : BitVec 32) = BitVec.ofNat 32 1 from rfl, ← BitVec.ofNat_add, Nat.add_comm]
  have h : ((f : ℕ) + 1) * (t : ℕ) < 2147483648 := by
    have h1 : (f : ℕ) + 1 ≤ 4095 := by omega
    have h2 : (t : ℕ) ≤ 8192 := by omega
    calc ((f : ℕ) + 1) * (t : ℕ) ≤ 4095 * 8192 := Nat.mul_le_mul h1 h2
      _ < 2147483648 := by norm_num
  rw [ang_read, e, ofBits_8192, turn h (by norm_num)]

/-- The real part is the sum of the normalized column against the cosines. -/
theorem re0_read (b : Fin 4) (f : Fin 4095) (j : Fin 768) : re0 V0 (ix3 b f j)
    = ∑ t : Fin 8192, norm V0 (ix3 b t j) * Ideal.cos (ang V0 (ix2 f t)) := by
  unfold re0 res_main_v34 norm ang
  clean_types
  pointwise

/-- The imaginary part is the sum of the normalized column against the negated sines. -/
theorem im0_read (b : Fin 4) (f : Fin 4095) (j : Fin 768) : im0 V0 (ix3 b f j)
    = ∑ t : Fin 8192, norm V0 (ix3 b t j) * -Ideal.sin (ang V0 (ix2 f t)) := by
  unfold im0 res_main_v38 norm ang
  clean_types
  pointwise

/-- The real part at place `f` is the transform's at frequency `f + 1`. -/
theorem re0_apply (b : Fin 4) (f : Fin 4095) (j : Fin 768) :
    re0 V0 (ix3 b f j) = ((Fourier.re (xs (col V0 b j)) (f + 1 : ℕ) : ℝ) : EReal) := by
  rw [re0_read, Fourier.re, Fourier.coe_sum]
  refine Finset.sum_congr rfl fun t _ => ?_
  rw [norm_apply, ang_apply, cos_coe, ← EReal.coe_mul]

/-- The imaginary part at place `f` is the transform's at frequency `f + 1`. -/
theorem im0_apply (b : Fin 4) (f : Fin 4095) (j : Fin 768) :
    im0 V0 (ix3 b f j) = ((Fourier.im (xs (col V0 b j)) (f + 1 : ℕ) : ℝ) : EReal) := by
  rw [im0_read, Fourier.im, Fourier.coe_sum]
  refine Finset.sum_congr rfl fun t _ => ?_
  rw [norm_apply, ang_apply, sin_coe, ← EReal.coe_neg, ← EReal.coe_mul]

/-- No value differs from itself, so replacing those that do changes nothing. -/
theorem select_self {s : Shape} (x y : FVec Ideal s .f32) : select (cmpf .une x x) y x = x := by
  funext i
  have h : cmpf .une x x i = 0#1 := by
    show BitVec.ofBool (decide (x i ≠ x i)) = 0#1
    simp
  exact (congrArg (fun w => Scalar.select w (y i) (x i)) h).trans (Cert.Select.sel_zero _ _)

/-- No extended real differs from itself, so the replacement of not-a-number leaves the real parts as they are. -/
theorem re1_eq : re1 V0 = re0 V0 := select_self _ _

/-- No extended real differs from itself, so the replacement of not-a-number leaves the imaginary parts as they are.
-/
theorem im1_eq : im1 V0 = im0 V0 := select_self _ _

/-- The amplitude is the root of the sum of the two squares. -/
theorem amp_read (b : Fin 4) (f : Fin 4095) (j : Fin 768) : amp V0 (ix3 b j f)
    = Ideal.sqrt (re1 V0 (ix3 b f j) * re1 V0 (ix3 b f j) + im1 V0 (ix3 b f j) * im1 V0 (ix3 b f j)) := by
  unfold amp res_main_v49 re1 im1
  clean_types
  pointwise

/-- The amplitude at place `f`. -/
theorem amp_apply (b : Fin 4) (f : Fin 4095) (j : Fin 768) : amp V0 (ix3 b j f)
    = ((Real.sqrt (Fourier.re (xs (col V0 b j)) (f + 1 : ℕ) * Fourier.re (xs (col V0 b j)) (f + 1 : ℕ)
      + Fourier.im (xs (col V0 b j)) (f + 1 : ℕ) * Fourier.im (xs (col V0 b j)) (f + 1 : ℕ)) : ℝ) : EReal) := by
  rw [amp_read, re1_eq, im1_eq, re0_apply, im0_apply, ← EReal.coe_mul, ← EReal.coe_mul, ← EReal.coe_add]
  rw [show ∀ r : ℝ, Ideal.sqrt ((r : ℝ) : EReal) = if r < 0 then ⊥ else ((Real.sqrt r : ℝ) : EReal) from fun _ => rfl, if_neg]
  exact not_lt.2 (add_nonneg (mul_self_nonneg _) (mul_self_nonneg _))

end Cert.Ref

end
-- ==== Proof.Sorting.lean ====
module

public import proofs.«01_k».proof.Proof.Choice
public import Idealize.ShloMosaic.Lib.SortPrefix

/-!
The first places of a stable sort by size

A stable sort that puts greater keys first and leaves equal keys in place begins with the rows `chosen` takes.
-/

@[expose] public section

namespace Cert.Sorting

open Idealize.ShloMosaic
open Cert.Choice

/-- Two comparators that agree on every pair taken out of order sort an increasing list alike. -/
theorem stableSort_eq {n : ℕ} {R B : Fin n → Fin n → Bool} (h : ∀ a b, a < b → R b a = B b a) (l : List (Fin n))
    (hl : l.Pairwise (· < ·)) : stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => h a b (hl.1 b ((perm_stableSort B l).mem_iff.1 hb))

/-- The same of the place each entry comes from. -/
theorem sortedFrom_eq {n : ℕ} {R B : Fin n → Fin n → Bool} (h : ∀ a b, a < b → R b a = B b a) (k : Fin n) :
    sortedFrom R k = sortedFrom B k := by
  have e : sortPositions n R = sortPositions n B := stableSort_eq h _ (List.pairwise_lt_finRange n)
  unfold sortedFrom
  simp only [List.get_eq_getElem, e, Fin.val_cast]

open Classical in
/-- Greater keys first, equal keys by place. -/
noncomputable def before (A : ℕ → EReal) (k k' : Fin 4095) : Bool :=
  decide (A (k' + 1) < A (k + 1)) || (decide (A (k + 1) = A (k' + 1)) && decide (k < k'))

open Classical in
/-- The order of the sort is strict and total on the 4095 places. -/
theorem before_total (A : ℕ → EReal) : StrictTotalBefore (before A) :=
  StrictTotalBefore.of_key_then_position (fun x y : EReal => decide (y < x)) (fun k : Fin 4095 => A (k + 1))
    (fun a => by simp) (fun a b c h1 h2 => by simp only [decide_eq_true_eq] at *; exact h2.trans h1)
    (fun a b => by simp only [decide_eq_true_eq]; rcases lt_trichotomy a b with h | h | h <;> simp [h])

/-- A row that another row comes ahead of is not sorted before it. -/
theorem before_false {A : ℕ → EReal} {k k' : Fin 4095} (h : Ahead A (k' + 1 : ℕ) (k + 1 : ℕ)) : before A k k' = false := by
  unfold before
  rcases h with h | ⟨h, hlt⟩
  · simp [not_lt.2 h.le, h.ne]
  · have : ¬ k < k' := by rw [Fin.lt_def]; omega
    simp [h, this]

/-- The place of the `r`-th taken row. -/
noncomputable def place (A : ℕ → EReal) (r : Fin 32) : Fin 4095 :=
  ⟨chosen A r - 1, by have := (chosen_spec A (n := r) (by omega)).1; omega⟩

/-- The row taken in a step is one above its place, since row 0 has no place. -/
theorem place_add_one (A : ℕ → EReal) (r : Fin 32) : (place A r : ℕ) + 1 = chosen A r := by
  have := (chosen_spec A (n := r) (by omega)).1
  show chosen A r - 1 + 1 = chosen A r
  omega

/-- The first thirty-two places of the sort are those of the rows taken. -/
theorem sorted_place (A : ℕ → EReal) (R : Fin 4095 → Fin 4095 → Bool)
    (hR : ∀ k k', R k k' = decide (A (k' + 1 : ℕ) < A (k + 1 : ℕ))) (r : Fin 32) :
    sortedFrom R (r.castLE (by norm_num)) = place A r := by
  classical
  rw [sortedFrom_eq (B := before A) (fun a b hab => ?_)]
  · refine (before_total A).sortedFrom_eq_of_prefix (by norm_num) (place A) ?_ ?_ ?_ r
    · intro a b hab
      have h : chosen A a = chosen A b := by rw [← place_add_one, ← place_add_one, hab]
      exact Fin.ext (chosen_inj A (by omega) (by omega) h)
    · intro i j hij
      refine before_false ?_
      rw [place_add_one, place_add_one]
      exact chosen_ahead A hij (by omega)
    · intro i p hp
      refine before_false ?_
      rw [place_add_one]
      refine chosen_dom A (by omega) (by omega) (by omega) fun m hm h => hp ⟨m, by omega⟩ (Fin.ext ?_)
      have := place_add_one A ⟨m, by omega⟩
      simp only at this
      omega
  · have hn : ¬ b < a := not_lt.2 hab.le
    rw [hR]
    unfold before
    simp [hn]

end Cert.Sorting
-- ==== Proof.Picked.lean ====
module

public import proofs.«01_k».proof.Proof.Reference
public import proofs.«01_k».proof.Proof.Sorting

/-!
The reference, entry by entry: the places picked, and the result
-/

@[expose] public section

set_option maxRecDepth 16384

noncomputable section

namespace Cert.Ref

open Idealize.ShloMosaic Idealize.SL.Sem Idealize.ShloMosaic.TcCoe Idealize.ShloMosaic.StableHlo
open Cert.ReferenceIdeal Cert.ReferenceIdeal.Gen Cert.ReferenceIdeal.Value
open Cert.Fourier (angle)
open Cert.Scalars
open Cert.Shared (xs nrm_real)

variable (V0 : Valuation τ sig (Elt Ideal))

/-- A position of the last axis. -/
theorem along_last (b : Fin 4) (j : Fin 768) (r k : Fin 4095) :
    Shape.Idx.along (s := S4x768x4095) (ix3 b j r) 2 k = ix3 b j k := by
  funext a
  unfold Shape.Idx.along
  fin_cases a <;> rfl

/-- A sort of two operands along the last axis, read at a position. -/
theorem sort2_read (cmp : Ideal .f32 × BitVec 32 → Ideal .f32 × BitVec 32 → BitVec 1) (x : FVec Ideal S4x768x4095 .f32)
    (y : IVec S4x768x4095 32) (b : Fin 4) (p : Fin 4095) (j : Fin 768) :
    (Host.sort2 S4x768x4095 2 cmp x y).2 (ix3 b j p)
      = y (ix3 b j (sortedFrom (fun k k' : Fin 4095 =>
          cmp (x (ix3 b j k), y (ix3 b j k)) (x (ix3 b j k'), y (ix3 b j k')) == 1#1) p)) := by
  unfold Host.sort2
  rw [dif_pos (show 2 < S4x768x4095.rank by decide)]
  show y (Shape.Idx.along (s := S4x768x4095) (ix3 b j p) 2 (sortedFrom (fun k k' : Fin 4095 =>
    cmp (x (Shape.Idx.along (s := S4x768x4095) (ix3 b j p) 2 k), y (Shape.Idx.along (s := S4x768x4095) (ix3 b j p) 2 k))
      (x (Shape.Idx.along (s := S4x768x4095) (ix3 b j p) 2 k'), y (Shape.Idx.along (s := S4x768x4095) (ix3 b j p) 2 k')) == 1#1) p)) = _
  simp only [along_last]
  exact congrArg y (along_last b j p _)

/-- The places of the largest entries along the last axis. -/
theorem topK_read (gt : Ideal .f32 → Ideal .f32 → BitVec 1) (x : FVec Ideal S4x768x4095 .f32) (b : Fin 4) (r : Fin 32) (j : Fin 768) :
    (Host.topK S4x768x32 2 gt x sliceFits_S4x768x4095_S4x768x32).2 (ix3 b j r)
      = BitVec.ofNat 32 (sortedFrom (fun k k' : Fin 4095 => gt (x (ix3 b j k)) (x (ix3 b j k')) == 1#1) (r.castLE (by norm_num))) := by
  have e : ∀ (z : IVec S4x768x4095 32), extractStridedSlice S4x768x32 (fun _ => 0) z sliceFits_S4x768x4095_S4x768x32 (ix3 b j r)
      = z (ix3 b j (r.castLE (by norm_num))) := by
    intro z
    refine congrArg z (funext fun a => Fin.ext ?_)
    fin_cases a <;> exact Nat.zero_add _
  show extractStridedSlice S4x768x32 (fun _ => 0) (Host.sort2 S4x768x4095 2 (fun l r => gt l.1 r.1) x
    (fun i => if hd : 2 < S4x768x4095.rank then iotaInDim S4x768x4095 32 ⟨2, hd⟩ i else 0#32)).2
    sliceFits_S4x768x4095_S4x768x32 (ix3 b j r) = _
  rw [e, sort2_read, dif_pos (show 2 < S4x768x4095.rank by decide)]
  rfl

/-- The place picked at `r`, as the sort gives it. -/
theorem idx_read (b : Fin 4) (r : Fin 32) (j : Fin 768) : idx V0 (ix3 b r j)
    = BitVec.ofNat 32 (sortedFrom (fun k k' : Fin 4095 =>
        (FloatOps.cmpfTotal .gt (amp V0 (ix3 b j k)) (amp V0 (ix3 b j k')) : BitVec 1) == 1#1) (r.castLE (by norm_num))) := by
  rw [← topK_read]
  unfold idx res_main_v50 amp
  clean_types
  generalize res_main_v49 V0 = z
  generalize (Host.topK (α := Ideal .f32) S4x768x32 2 (FloatOps.cmpfTotal .gt) z sliceFits_S4x768x4095_S4x768x32).2 = w
  pointwise

/-- The gather along the middle axis reads the operand at the place its index word names, kept in range. -/
theorem gather_apply (x : FVec Ideal S4x4095x768 .f32) (w : IVec S4x32x768 32) (b : Fin 4) (r : Fin 32) (j : Fin 768) :
    Host.gather gather_S4x4095x768_S4x32x768x1_S4x32x768_n_1_02_02_1_3_111 x (shapeCast S4x32x768x1 w shapeCasts_S4x32x768_S4x32x768x1) (ix3 b r j)
      = x (ix3 b ⟨min (w (ix3 b r j)).toInt.toNat 4094, by omega⟩ j) := by
  have hw : shapeCast S4x32x768x1 w shapeCasts_S4x32x768_S4x32x768x1 (ix4 b r j 0) = w (ix3 b r j) := by pointwise
  have hsi : (gather_S4x4095x768_S4x32x768x1_S4x32x768_n_1_02_02_1_3_111).siIdx (ix3 b r j) ⟨0, by decide⟩ = ix4 b r j 0 := by
    funext c; refine Fin.ext ?_
    fin_cases c <;> rfl
  unfold Host.gather
  congr 1
  funext a
  refine Fin.ext ?_
  show (gather_S4x4095x768_S4x32x768x1_S4x32x768_n_1_02_02_1_3_111).start _ _ a
    + (gather_S4x4095x768_S4x32x768x1_S4x32x768_n_1_02_02_1_3_111).batchCoord _ a
    + (gather_S4x4095x768_S4x32x768x1_S4x32x768_n_1_02_02_1_3_111).offCoord _ a = _
  have hoff : (gather_S4x4095x768_S4x32x768x1_S4x32x768_n_1_02_02_1_3_111).offCoord (ix3 b r j) a = 0 :=
    GatherDims.offCoord_eq_zero _ _ _ (by fin_cases a <;> decide)
  rw [hoff, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (by decide), Nat.zero_add]
    unfold GatherDims.batchCoord
    rw [dif_pos (by decide)]
    rfl
  · rw [GatherDims.batchCoord_eq_zero _ _ _ (by decide)]
    unfold GatherDims.start
    rw [dif_pos (by decide)]
    exact congrArg (fun v : BitVec 32 => min v.toInt.toNat 4094) ((congrArg _ hsi).trans hw)
  · unfold GatherDims.start
    rw [dif_neg (by decide), Nat.zero_add]
    unfold GatherDims.batchCoord
    rw [dif_pos (by decide)]
    rfl

/-- The weight of a synthesis frequency, as the program computes it. -/
theorem wt_read (r : Fin 32) : wt V0 (ix2 0 r) = Ideal.div (Scalar.select (IntOp.cmpi .eq (BitVec.ofNat 32 r) 0#32) (1 : EReal)
    (Ideal.ofBits .f32 1073741824#32)) (Ideal.ofBits .f32 1174405120#32) := by
  unfold wt res_main_v71 res_main_v53
  clean_types
  pointwise

/-- The synthesis weight at place `r`. -/
theorem wt_apply (r : Fin 32) : wt V0 (ix2 0 r) = ((weight r : ℝ) : EReal) := by
  rw [wt_read, cmpi_zero (by omega), Cert.Select.sel_ite, ofBits_two, ofBits_8192, weight]
  rw [show (if (r : ℕ) = 0 then (1 : EReal) else ((2 : ℝ) : EReal)) = ((if (r : ℕ) = 0 then (1 : ℝ) else 2 : ℝ) : EReal) by
    split <;> rfl]
  rw [div_coe _ _ (by norm_num)]
  norm_num

/-- The synthesis angle, as the program computes it. -/
theorem sang_read (t : Fin 8192) (r : Fin 32) : sang V0 (ix2 t r)
    = Ideal.div (Ideal.ofBits .f32 1073741824#32 * Ideal.atan2 0 (Ideal.ofBits .f32 3212836864#32)
      * (FloatOps.sitofp .f32 (IntOp.muli (BitVec.ofNat 32 t) (BitVec.ofNat 32 r)) : Ideal .f32))
      (Ideal.ofBits .f32 1174405120#32) := by
  unfold sang res_main_v65 res_main_v16 res_main_v53
  clean_types
  pointwise

/-- The synthesis angle at time `t` and place `r`. -/
theorem sang_apply (t : Fin 8192) (r : Fin 32) : sang V0 (ix2 t r) = ((angle t r 8192 : ℝ) : EReal) := by
  have h : (t : ℕ) * (r : ℕ) < 2147483648 :=
    calc (t : ℕ) * (r : ℕ) ≤ 8192 * 32 := Nat.mul_le_mul (by omega) (by omega)
      _ < 2147483648 := by norm_num
  rw [sang_read, ofBits_8192, turn h (by norm_num)]

/-- The place picked at `r` is the one the key picks. -/
theorem idx_apply (b : Fin 4) (r : Fin 32) (j : Fin 768) :
    idx V0 (ix3 b r j) = BitVec.ofNat 32 (Sorting.place (Select.key (xs (col V0 b j))) r) := by
  rw [idx_read, Sorting.sorted_place (Select.key (xs (col V0 b j)))]
  intro k k'
  have e : ∀ u v : EReal, ((FloatOps.cmpfTotal (F := Ideal) (φ := .f32) .gt u v : BitVec 1) == 1#1) = decide (v < u) := by
    intro u v
    show (BitVec.ofBool (decide (v < u)) == 1#1) = decide (v < u)
    cases decide (v < u) <;> rfl
  rw [e, amp_apply, amp_apply, Select.key, Select.key, if_neg (Nat.succ_ne_zero _), if_neg (Nat.succ_ne_zero _)]
  refine decide_eq_decide.2 ?_
  rw [EReal.coe_lt_coe_iff, EReal.coe_lt_coe_iff]
  exact Real.sqrt_lt_sqrt_iff (add_nonneg (mul_self_nonneg _) (mul_self_nonneg _))

/-- The index words the gathers read. -/
def words : IVec S4x32x768 32 :=
  select (cmpi .slt (idx V0) (broadcastInDim S4x32x768 ![] bcast_S_S4x32x768 (constantI S_ 32 0#32)))
    (addi (idx V0) (broadcastInDim S4x32x768 ![] bcast_S_S4x32x768 (constantI S_ 32 4095#32))) (idx V0)

/-- The place to gather from: the picked place, moved up by 4095 where it is negative. -/
theorem words_read (b : Fin 4) (r : Fin 32) (j : Fin 768) : words V0 (ix3 b r j)
    = Scalar.select (IntOp.cmpi .slt (idx V0 (ix3 b r j)) 0#32) (IntOp.addi (idx V0 (ix3 b r j)) 4095#32) (idx V0 (ix3 b r j)) := by
  unfold words
  generalize idx V0 = z
  pointwise

/-- The place to gather from is the pick's place in the stable sort of the column's amplitudes. -/
theorem words_toInt (b : Fin 4) (r : Fin 32) (j : Fin 768) :
    (words V0 (ix3 b r j)).toInt = (Sorting.place (Select.key (xs (col V0 b j))) r : ℕ) := by
  have hi := Cert.Select.toInt_row (r := Sorting.place (Select.key (xs (col V0 b j))) r) (by omega)
  have h : IntOp.cmpi .slt (BitVec.ofNat 32 (Sorting.place (Select.key (xs (col V0 b j))) r)) 0#32 = 0#1 := by
    show BitVec.ofBool (BitVec.slt _ _) = 0#1
    rw [BitVec.slt_eq_decide, hi, decide_eq_false]
    · rfl
    · rw [show (0#32 : BitVec 32).toInt = 0 from rfl]
      omega
  rw [words_read, idx_apply, h, Cert.Select.sel_zero, hi]

/-- The gathers read the picked frequency. -/
theorem gather_words (x : FVec Ideal S4x4095x768 .f32) (b : Fin 4) (r : Fin 32) (j : Fin 768) :
    Host.gather gather_S4x4095x768_S4x32x768x1_S4x32x768_n_1_02_02_1_3_111 x
      (shapeCast S4x32x768x1 (words V0) shapeCasts_S4x32x768_S4x32x768x1) (ix3 b r j)
      = x (ix3 b (Sorting.place (Select.key (xs (col V0 b j))) r) j) := by
  rw [gather_apply]
  refine congrArg (fun k => x (ix3 b k j)) (Fin.ext ?_)
  show min (words V0 (ix3 b r j)).toInt.toNat 4094 = _
  rw [words_toInt, Int.toNat_natCast]
  omega

/-- The picked real parts. -/
def gre : FVec Ideal S4x32x768 .f32 := Host.gather gather_S4x4095x768_S4x32x768x1_S4x32x768_n_1_02_02_1_3_111 (re1 V0)
  (shapeCast S4x32x768x1 (words V0) shapeCasts_S4x32x768_S4x32x768x1)

/-- The picked imaginary parts. -/
def gim : FVec Ideal S4x32x768 .f32 := Host.gather gather_S4x4095x768_S4x32x768x1_S4x32x768_n_1_02_02_1_3_111 (im1 V0)
  (shapeCast S4x32x768x1 (words V0) shapeCasts_S4x32x768_S4x32x768x1)

/-- The gathered real part is that of the picked frequency. -/
theorem gre_apply (b : Fin 4) (r : Fin 32) (j : Fin 768) :
    gre V0 (ix3 b r j) = ((Fourier.re (xs (col V0 b j)) (Shared.pick (col V0 b j) r) : ℝ) : EReal) := by
  rw [gre, gather_words, re1_eq, re0_apply, Sorting.place_add_one, Shared.pick]

/-- The gathered imaginary part is that of the picked frequency. -/
theorem gim_apply (b : Fin 4) (r : Fin 32) (j : Fin 768) :
    gim V0 (ix3 b r j) = ((Fourier.im (xs (col V0 b j)) (Shared.pick (col V0 b j) r) : ℝ) : EReal) := by
  rw [gim, gather_words, im1_eq, im0_apply, Sorting.place_add_one, Shared.pick]

/-- The synthesis from given coefficients, angles, weights, deviations and means. -/
def synth (gr gi : FVec Ideal S4x32x768 .f32) (a : FVec Ideal S8192x32 .f32) (w : FVec Ideal S1x32 .f32)
    (s mu : FVec Ideal S4x1x768 .f32) : FVec Ideal S4x8192x768 .f32 :=
  addf (mulf (subf (transpose S4x8192x768 [0, 2, 1] (Host.dotGeneral dot_S4x32x768_S8192x32_S4x768x8192_1_1_02_0_n_n none gr (mulf (broadcastInDim S8192x32 ![0, 1] bcast_S1x32_S8192x32_0_1 (id w)) (Host.cos a))) transposes_S4x768x8192_S4x8192x768_0_2_1) (transpose S4x8192x768 [0, 2, 1] (Host.dotGeneral dot_S4x32x768_S8192x32_S4x768x8192_1_1_02_0_n_n none gi (mulf (broadcastInDim S8192x32 ![0, 1] bcast_S1x32_S8192x32_0_1 (id w)) (Host.sin a))) transposes_S4x768x8192_S4x8192x768_0_2_1)) (broadcastInDim S4x8192x768 ![0, 1, 2] bcast_S4x1x768_S4x8192x768_0_1_2 s)) (broadcastInDim S4x8192x768 ![0, 1, 2] bcast_S4x1x768_S4x8192x768_0_1_2 mu)

/-- The synthesis, as two sums over the thirty-two picks, scaled and moved. -/
theorem synth_apply (gr gi : FVec Ideal S4x32x768 .f32) (a : FVec Ideal S8192x32 .f32) (w : FVec Ideal S1x32 .f32)
    (s mu : FVec Ideal S4x1x768 .f32) (b : Fin 4) (t : Fin 8192) (j : Fin 768) : synth gr gi a w s mu (ix3 b t j)
      = (∑ r : Fin 32, gr (ix3 b r j) * (w (ix2 0 r) * Ideal.cos (a (ix2 t r)))
          - ∑ r : Fin 32, gi (ix3 b r j) * (w (ix2 0 r) * Ideal.sin (a (ix2 t r)))) * s (ix3 b 0 j) + mu (ix3 b 0 j) := by
  unfold synth
  simp only [id_eq]
  pointwise

/-- The reference's result. -/
def result : FVec Ideal S4x8192x768 .f32 := synth (gre V0) (gim V0) (sang V0) (wt V0) (dev V0) (mean V0)

/-- The reference's entry is the column's result. -/
theorem result_apply (b : Fin 4) (t : Fin 8192) (j : Fin 768) : result V0 (ix3 b t j) = Shared.out (col V0 b j) t := by
  rw [result, synth_apply, dev_apply, mean_apply, Shared.out]
  simp only [gre_apply, gim_apply, wt_apply, sang_apply, cos_coe, sin_coe, ← EReal.coe_mul]
  rw [← Fourier.coe_sum, ← Fourier.coe_sum, ← EReal.coe_sub]
  have e : (∑ r : Fin 32, Fourier.re (xs (col V0 b j)) (Shared.pick (col V0 b j) r) * (weight r * Real.cos (angle t r 8192))
      - ∑ r : Fin 32, Fourier.im (xs (col V0 b j)) (Shared.pick (col V0 b j) r) * (weight r * Real.sin (angle t r 8192)))
      = ∑ r : Fin 32, weight r * Real.cos (angle t r 8192) * Fourier.re (xs (col V0 b j)) (Shared.pick (col V0 b j) r)
        + ∑ r : Fin 32, -(weight r * Real.sin (angle t r 8192)) * Fourier.im (xs (col V0 b j)) (Shared.pick (col V0 b j) r) := by
    rw [sub_eq_add_neg, ← Finset.sum_neg_distrib]
    congr 1
    · exact Finset.sum_congr rfl fun r _ => by ring
    · exact Finset.sum_congr rfl fun r _ => by ring
  rw [e]

open Idealize.ShloMosaic.StableHlo in
/-- The reference's run: its result array at `result`, its argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = result (launchContents m c)
      ∧ r.2.mem ((c.tc : Thread nD τ).loc main_arg0) = m ((c.tc : Thread nD τ).loc main_arg0) :=
  Cert.ReferenceIdeal.Value.run m ρ

end Cert.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Whole
public import proofs.«01_k».proof.Proof.Picked
public import Idealize.ShloMosaic.Adequacy
public import Idealize.ShloMosaic.Init

@[expose] public section

noncomputable section

namespace Cert.Proof

open Idealize.ShloMosaic Idealize.ShloMosaic.StableHlo Idealize.SL.Sem Cert.Kernel

/-- The reference runs, leaves its argument unchanged, and ends with every counter at zero: it declares none. -/
theorem reference_frame : Cert.quiescent_ReferenceIdeal (hReferenceIdeal := Cert.ReferenceIdeal.Gen.facts) := by
  intro m g _
  refine (θ_run Cert.ReferenceIdeal.defs _ _).mono (fun r h => ⟨fun c => (h c).2, ?_⟩)
    (Cert.ReferenceIdeal.Value.run (F := Ideal) m g)
  funext s
  rcases s with ⟨t, s⟩
  cases s <;> rename_i s <;> exact s.elim0

/-- At the extended reals the kernel and the reference leave the same result: both hold, at every time of every
column, the synthesis of the column's thirty-two picked frequencies. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Whole.full (Cert.Whole.arg m c), Cert.Whole.run m g, ?_⟩
  refine (θ_run Cert.ReferenceIdeal.defs _ _).mono (fun _ h c => ⟨(h c).1.trans ?_, (h c).2⟩) (Cert.Ref.run m' g')
  show Cert.Ref.result (launchContents m' c) = Cert.Whole.full (Cert.Whole.arg m c)
  funext i
  obtain ⟨b, t, j, rfl⟩ : ∃ (b : Fin 4) (t : Fin 8192) (j : Fin 768), i = (ix3 b t j : Cert.ReferenceIdeal.S4x8192x768.Idx) := by
    refine ⟨i 0, i 1, i 2, funext fun a => ?_⟩
    match a with
    | ⟨0, _⟩ => rfl
    | ⟨1, _⟩ => rfl
    | ⟨2, _⟩ => rfl
  rw [Cert.Ref.result_apply]
  have e : Cert.Ref.col (launchContents m' c) b j = fun t => Cert.Whole.arg m c (ix3 b t j) :=
    funext fun t => congrFun (hagree c) (ix3 b t j)
  rw [e]
  rfl

/-- The claim: the three frames, the idealization's faithfulness, and the algebraic equality. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
